-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_from_start [hPre_from_start : Cert.Pre_from_start.Facts] (m : (ℓ : Loc Cert.KernelIdeal.nD Cert.KernelIdeal.τ Cert.KernelIdeal.sig) → Buf (Elt Ideal) ℓ) : Prop :=
  ∀ c : Dev Cert.KernelIdeal.nD,
    (Cert.Pre_from_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_from_start [hPre_from_start : Cert.Pre_from_start.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_from_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_from_start [hKernelIdeal : Cert.KernelIdeal.Facts] [hPre_from_start : Cert.Pre_from_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_from_start m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_from_start [hReferenceIdeal : Cert.ReferenceIdeal.Facts] [hPre_from_start : Cert.Pre_from_start.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_from_start m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_from_start [hKernelIdeal : Cert.KernelIdeal.Facts] [hReferenceIdeal : Cert.ReferenceIdeal.Facts] [hPre_from_start : Cert.Pre_from_start.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_from_start m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_from_start : Cert.Pre_from_start.Facts),
    quiescent_Kernel (hKernel := hKernel)
    ∧ quiescent_KernelIdeal (hKernelIdeal := hKernelIdeal)
    ∧ quiescent_KernelIdeal_pre_from_start (hKernelIdeal := hKernelIdeal) (hPre_from_start := hPre_from_start)
    ∧ quiescent_ReferenceIdeal (hReferenceIdeal := hReferenceIdeal)
    ∧ quiescent_ReferenceIdeal_pre_from_start (hReferenceIdeal := hReferenceIdeal) (hPre_from_start := hPre_from_start)
    ∧ preserves_Kernel_KernelIdeal
    ∧ algebraic_KernelIdeal_ReferenceIdeal_pre_from_start (hKernelIdeal := hKernelIdeal) (hReferenceIdeal := hReferenceIdeal) (hPre_from_start := hPre_from_start)
-- ==== Pre_from_start.lean ====
abbrev S512x32x128 : Shape := ⟨3, ![512, 32, 128]⟩
abbrev S8192x128 : Shape := ⟨2, ![8192, 128]⟩
abbrev S512x32 : Shape := ⟨2, ![512, 32]⟩
abbrev S512 : Shape := ⟨1, ![512]⟩
abbrev S_ : Shape := ⟨0, ![]⟩

class Facts : Prop where
  bcast_S_S512x32 : S_.BroadcastsInDim S512x32 (![] : Fin 0 → Fin S512x32.rank)
  reducesTo_S512x32_S_d0_1 : S512x32.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S512x32x128 .f32) (main_arg1 : FVec F S8192x128 .f32) (main_arg2 : FVec F S512x32 .f32) (main_arg3 : IVec S512 32) (main_arg4 : IVec S512 32) : IVec S_ 1 :=
  let main_cst : FVec F S_ .f32 := constant S_ .f32 0x00000000#32
  let main_v0 : FVec F S512x32 .f32 := broadcastInDim S512x32 ![] bcast_S_S512x32 main_cst
  let main_v1 : IVec S512x32 1 := cmpf .oge main_arg2 main_v0
  let main_cst_0 : FVec F S_ .f32 := constant S_ .f32 0x7F800000#32
  let main_v2 : FVec F S512x32 .f32 := broadcastInDim S512x32 ![] bcast_S_S512x32 main_cst_0
  let main_v3 : IVec S512x32 1 := cmpf .olt main_arg2 main_v2
  let main_v4 : IVec S512x32 1 := andi main_v1 main_v3
  let main_c : IVec S_ 1 := constantI S_ 1 1#1
  let main_v5 : IVec S_ 1 := (fun x v => Host.reduce IntOp.andi x v reducesTo_S512x32_S_d0_1 h_S_) main_v4 main_c
  let main_c_1 : IVec S_ 32 := constantI S_ 32 0#32
  let main_v6 : IVec S512 32 := broadcastInDim S512 ![] bcast_S_S512 main_c_1
  let main_v7 : IVec S512 1 := cmpi .sle main_arg3 main_v6
  let main_c_2 : IVec S_ 1 := constantI S_ 1 1#1
  let main_v8 : IVec S_ 1 := (fun x v => Host.reduce IntOp.andi x v reducesTo_S512_S_d0 h_S_) main_v7 main_c_2
  let main_v9 : IVec S_ 1 := andi main_v5 main_v8
  main_v9
-- ==== Kernel.lean ====
abbrev S512x32x128 : Shape := ⟨3, ![512, 32, 128]⟩
abbrev S8192x128 : Shape := ⟨2, ![8192, 128]⟩
abbrev S512x32 : Shape := ⟨2, ![512, 32]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S8x64x32x128 : Shape := ⟨4, ![8, 64, 32, 128]⟩
abbrev S8x32x64x128 : Shape := ⟨4, ![8, 32, 64, 128]⟩
abbrev S8x64x32 : Shape := ⟨3, ![8, 64, 32]⟩
abbrev S8x32x64 : Shape := ⟨3, ![8, 32, 64]⟩
abbrev S8x32x64x1 : Shape := ⟨4, ![8, 32, 64, 1]⟩
abbrev S8x64 : Shape := ⟨2, ![8, 64]⟩
abbrev S8 : Shape := ⟨1, ![8]⟩
abbrev S512x8192 : Shape := ⟨2, ![512, 8192]⟩
abbrev S1x32x64x128 : Shape := ⟨4, ![1, 32, 64, 128]⟩
abbrev S1x32x64x1 : Shape := ⟨4, ![1, 32, 64, 1]⟩
abbrev S64x1 : Shape := ⟨2, ![64, 1]⟩
abbrev S2048x128 : Shape := ⟨2, ![2048, 128]⟩
abbrev S2x64x8192 : Shape := ⟨3, ![2, 64, 8192]⟩
abbrev S2 : Shape := ⟨1, ![2]⟩
abbrev S1 : Shape := ⟨1, ![1]⟩
abbrev S1x8192 : Shape := ⟨2, ![1, 8192]⟩
abbrev S1x1x8192 : Shape := ⟨3, ![1, 1, 8192]⟩
abbrev S2048x1 : Shape := ⟨2, ![2048, 1]⟩
abbrev S64x2048 : Shape := ⟨2, ![64, 2048]⟩
abbrev S2048x2048 : Shape := ⟨2, ![2048, 2048]⟩
abbrev S32x64x2048 : Shape := ⟨3, ![32, 64, 2048]⟩
abbrev S1x64x2048 : Shape := ⟨3, ![1, 64, 2048]⟩

abbrev nBuf : Space → Nat
  | .hbm => 75
  | .vmem => 9
  | .smem => 2
  | _ => 0

abbrev bufTy : (tb : Table) → Fin (tcTables nBuf tb) → BufTy
  | .hbm, ⟨0, _⟩ => ⟨S512x32x128, .f32⟩
  | .hbm, ⟨1, _⟩ => ⟨S8192x128, .f32⟩
  | .hbm, ⟨2, _⟩ => ⟨S512x32, .f32⟩
  | .hbm, ⟨3, _⟩ => ⟨S512, .i32⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S1x512, .i32⟩
  | .hbm, ⟨17, _⟩ => ⟨S512x1, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .i1⟩
  | .hbm, ⟨22, _⟩ => ⟨S512x512, .i1⟩
  | .hbm, ⟨23, _⟩ => ⟨S512x512, .i32⟩
  | .hbm, ⟨24, _⟩ => ⟨S_, .i32⟩
  | .hbm, ⟨25, _⟩ => ⟨S512, .i32⟩
  | .hbm, ⟨26, _⟩ => ⟨S512x1, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S512x512, .i32⟩
  | .hbm, ⟨32, _⟩ => ⟨S512x1, .i32⟩
  | .hbm, ⟨33, _⟩ => ⟨S512x512, .i32⟩
  | .hbm, ⟨34, _⟩ => ⟨S512x512, .i32⟩
  | .hbm, ⟨35, _⟩ => ⟨S_, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S512x32x128, .f32⟩
  | .hbm, ⟨45, _⟩ => ⟨S8x64x32x128, .f32⟩
  | .hbm, ⟨46, _⟩ => ⟨S8x32x64x128, .f32⟩
  | .hbm, ⟨47, _⟩ => ⟨S8x32x64x128, .bf16⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x32, .f32⟩
  | .hbm, ⟨57, _⟩ => ⟨S8x64x32, .f32⟩
  | .hbm, ⟨58, _⟩ => ⟨S8x32x64, .f32⟩
  | .hbm, ⟨59, _⟩ => ⟨S8x32x64x1, .f32⟩
  | .hbm, ⟨60, _⟩ => ⟨S8x32x64x1, .bf16⟩
  | .hbm, ⟨61, _⟩ => ⟨S8192x128, .bf16⟩
  | .hbm, ⟨62, _⟩ => ⟨S_, .i32⟩
  | .hbm, ⟨63, _⟩ => ⟨S512, .i32⟩
  | .hbm, ⟨64, _⟩ => ⟨S512, .i1⟩
  | .hbm, ⟨65, _⟩ => ⟨S_, .i32⟩
  | .hbm, ⟨66, _⟩ => ⟨S512, .i32⟩
  | .hbm, ⟨67, _⟩ => ⟨S512, .i32⟩
  | .hbm, ⟨68, _⟩ => ⟨S512, .i32⟩
  | .hbm, ⟨69, _⟩ => ⟨S512x1, .i32⟩
  | .hbm, ⟨70, _⟩ => ⟨S512, .i32⟩
  | .hbm, ⟨71, _⟩ => ⟨S512x1, .i32⟩
  | .hbm, ⟨72, _⟩ => ⟨S8x64, .i32⟩
  | .hbm, ⟨73, _⟩ => ⟨S_, .i32⟩
  | .hbm, ⟨74, _⟩ => ⟨S512x8192, .f32⟩
  | .local _ .vmem, ⟨0, _⟩ => ⟨S1x32x64x128, .bf16⟩
  | .local _ .vmem, ⟨1, _⟩ => ⟨S1x32x64x128, .bf16⟩
  | .local _ .vmem, ⟨2, _⟩ => ⟨S1x32x64x1, .bf16⟩
  | .local _ .vmem, ⟨3, _⟩ => ⟨S1x32x64x1, .bf16⟩
  | .local _ .vmem, ⟨4, _⟩ => ⟨S8192x128, .bf16⟩
  | .local _ .vmem, ⟨5, _⟩ => ⟨S64x1, .i32⟩
  | .local _ .vmem, ⟨6, _⟩ => ⟨S64x1, .i32⟩
  | .local _ .vmem, ⟨7, _⟩ => ⟨S2048x128, .bf16⟩
  | .local _ .vmem, ⟨8, _⟩ => ⟨S2x64x8192, .f32⟩
  | .local _ .smem, ⟨0, _⟩ => ⟨S512, .i32⟩
  | .local _ .smem, ⟨1, _⟩ => ⟨S8, .i32⟩
  | _, _ => ⟨S512x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_c : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_v24 : Ref sig .tc := ⟨.hbm, 30, rfl⟩
abbrev main_call0_v25 : Ref sig .tc := ⟨.hbm, 31, rfl⟩
abbrev main_call0_v26 : Ref sig .tc := ⟨.hbm, 32, rfl⟩
abbrev main_call0_v27 : Ref sig .tc := ⟨.hbm, 33, rfl⟩
abbrev main_call0_v28 : Ref sig .tc := ⟨.hbm, 34, rfl⟩
abbrev main_call0_c_0 : Ref sig .tc := ⟨.hbm, 35, rfl⟩
abbrev main_call0_c_1 : Ref sig .tc := ⟨.hbm, 36, rfl⟩
abbrev main_call0_v30 : Ref sig .tc := ⟨.hbm, 37, rfl⟩
abbrev main_call0_v31 : Ref sig .tc := ⟨.hbm, 38, rfl⟩
abbrev main_call0_c_2 : Ref sig .tc := ⟨.hbm, 39, rfl⟩
abbrev main_call0_v32 : Ref sig .tc := ⟨.hbm, 40, rfl⟩
abbrev main_call0_v33 : Ref sig .tc := ⟨.hbm, 41, rfl⟩
abbrev main_call0_v34 : Ref sig .tc := ⟨.hbm, 42, rfl⟩
abbrev main_call0_v35 : Ref sig .tc := ⟨.hbm, 43, rfl⟩
abbrev main_call0_v36 : Ref sig .tc := ⟨.hbm, 44, rfl⟩
abbrev main_call0_v37 : Ref sig .tc := ⟨.hbm, 45, rfl⟩
abbrev main_call0_v38 : Ref sig .tc := ⟨.hbm, 46, rfl⟩
abbrev main_call0_v39 : Ref sig .tc := ⟨.hbm, 47, rfl⟩
abbrev main_call0_c_3 : Ref sig .tc := ⟨.hbm, 48, rfl⟩
abbrev main_call0_v40 : Ref sig .tc := ⟨.hbm, 49, rfl⟩
abbrev main_call0_v41 : Ref sig .tc := ⟨.hbm, 50, rfl⟩
abbrev main_call0_c_4 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_call0_v47 : Ref sig .tc := ⟨.hbm, 57, rfl⟩
abbrev main_call0_v48 : Ref sig .tc := ⟨.hbm, 58, rfl⟩
abbrev main_call0_v49 : Ref sig .tc := ⟨.hbm, 59, rfl⟩
abbrev main_call0_v50 : Ref sig .tc := ⟨.hbm, 60, rfl⟩
abbrev main_call0_v51 : Ref sig .tc := ⟨.hbm, 61, rfl⟩
abbrev main_call0_c_5 : Ref sig .tc := ⟨.hbm, 62, rfl⟩
abbrev main_call0_v52 : Ref sig .tc := ⟨.hbm, 63, rfl⟩
abbrev main_call0_v53 : Ref sig .tc := ⟨.hbm, 64, rfl⟩
abbrev main_call0_c_6 : Ref sig .tc := ⟨.hbm, 65, rfl⟩
abbrev main_call0_v54 : Ref sig .tc := ⟨.hbm, 66, rfl⟩
abbrev main_call0_v55 : Ref sig .tc := ⟨.hbm, 67, rfl⟩
abbrev main_call0_v56 : Ref sig .tc := ⟨.hbm, 68, rfl⟩
abbrev main_call0_v57 : Ref sig .tc := ⟨.hbm, 69, rfl⟩
abbrev main_call0_v58 : Ref sig .tc := ⟨.hbm, 70, rfl⟩
abbrev main_call0_v59 : Ref sig .tc := ⟨.hbm, 71, rfl⟩
abbrev main_call0_v60 : Ref sig .tc := ⟨.hbm, 72, rfl⟩
abbrev main_call0_c_7 : Ref sig .tc := ⟨.hbm, 73, rfl⟩
abbrev main_v0 : Ref sig .tc := ⟨.hbm, 74, rfl⟩
abbrev main_call0_v29 : Ref sig .tc := ⟨.smem, 0, rfl⟩
abbrev main_call0_v61 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

abbrev pre0 : Pipeline.Prefetch sig := ⟨2, ![main_call0_v29.idx, main_call0_v61.idx], fun | 0 => main_call0_v29.names | 1 => main_call0_v61.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c2_i32_15 : BitVec 32 := 2#32
  let v55 : BitVec 1 := Scalar.cmpi .sge arg0 c2_i32_15
  let v56 : BitVec 32 := Scalar.extui v55
  let c0_i32_16 : BitVec 32 := 0#32
  let v57 : BitVec 1 := Scalar.cmpi .ne v56 c0_i32_16
  v57

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_28 : BitVec 32 := 0#32
  let c0_i32_29 : BitVec 32 := 0#32
  ![v0.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c1_i32 : BitVec 32 := 1#32
  let c0_i32_32 : BitVec 32 := 0#32
  ![v0.toNat, 1, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let c2_i32_35 : BitVec 32 := 2#32
  let c0_i32_36 : BitVec 32 := 0#32
  ![v0.toNat, 2, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c3_i32 : BitVec 32 := 3#32
  let c0_i32_39 : BitVec 32 := 0#32
  ![v0.toNat, 3, 0]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c4_i32 : BitVec 32 := 4#32
  let c0_i32_42 : BitVec 32 := 0#32
  ![v0.toNat, 4, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c5_i32 : BitVec 32 := 5#32
  let c0_i32_45 : BitVec 32 := 0#32
  ![v0.toNat, 5, 0]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c6_i32 : BitVec 32 := 6#32
  let c0_i32_48 : BitVec 32 := 0#32
  ![v0.toNat, 6, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c7_i32 : BitVec 32 := 7#32
  let c0_i32_51 : BitVec 32 := 0#32
  ![v0.toNat, 7, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c8_i32 : BitVec 32 := 8#32
  let c0_i32_54 : BitVec 32 := 0#32
  ![v0.toNat, 8, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c9_i32 : BitVec 32 := 9#32
  let c0_i32_57 : BitVec 32 := 0#32
  ![v0.toNat, 9, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c10_i32 : BitVec 32 := 10#32
  let c0_i32_60 : BitVec 32 := 0#32
  ![v0.toNat, 10, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c11_i32 : BitVec 32 := 11#32
  let c0_i32_63 : BitVec 32 := 0#32
  ![v0.toNat, 11, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c12_i32 : BitVec 32 := 12#32
  let c0_i32_66 : BitVec 32 := 0#32
  ![v0.toNat, 12, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let c13_i32 : BitVec 32 := 13#32
  let c0_i32_69 : BitVec 32 := 0#32
  ![v0.toNat, 13, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c14_i32 : BitVec 32 := 14#32
  let c0_i32_72 : BitVec 32 := 0#32
  ![v0.toNat, 14, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let c15_i32 : BitVec 32 := 15#32
  let c0_i32_75 : BitVec 32 := 0#32
  ![v0.toNat, 15, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let c16_i32 : BitVec 32 := 16#32
  let c0_i32_78 : BitVec 32 := 0#32
  ![v0.toNat, 16, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c17_i32 : BitVec 32 := 17#32
  let c0_i32_81 : BitVec 32 := 0#32
  ![v0.toNat, 17, 0]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c18_i32 : BitVec 32 := 18#32
  let c0_i32_84 : BitVec 32 := 0#32
  ![v0.toNat, 18, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c19_i32 : BitVec 32 := 19#32
  let c0_i32_87 : BitVec 32 := 0#32
  ![v0.toNat, 19, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c20_i32 : BitVec 32 := 20#32
  let c0_i32_90 : BitVec 32 := 0#32
  ![v0.toNat, 20, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let c21_i32 : BitVec 32 := 21#32
  let c0_i32_93 : BitVec 32 := 0#32
  ![v0.toNat, 21, 0]
def k0_off24 (i : grid0.Coords) : Fin 3 → Nat :=
  let arg0 : BitVec 32 := BitVec.ofNat 32 (i 0).val
  let c2_i32 : BitVec 32 := 2#32
  let v0 : BitVec 32 := Scalar.remsi arg0 c2_i32
  let c22_i32 : BitVec 32 := 22#32
  let c0_i32_96 : BitVec 32 := 0#32
  ![v0.toNat, 22, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c23_i32 : BitVec 32 := 23#32
  let c0_i32_99 : BitVec 32 := 0#32
  ![v0.toNat, 23, 0]
def k0_off26 (i : grid0.Coords) : Fin 3 → Nat :=
  let arg0 : BitVec 32 := BitVec.ofNat 32 (i 0).val
  let c2_i32 : BitVec 32 := 2#32
  let v0 : BitVec 32 := Scalar.remsi arg0 c2_i32
  let c24_i32 : BitVec 32 := 24#32
  let c0_i32_102 : BitVec 32 := 0#32
  ![v0.toNat, 24, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let c25_i32 : BitVec 32 := 25#32
  let c0_i32_105 : BitVec 32 := 0#32
  ![v0.toNat, 25, 0]
def k0_off28 (i : grid0.Coords) : Fin 3 → Nat :=
  let arg0 : BitVec 32 := BitVec.ofNat 32 (i 0).val
  let c2_i32 : BitVec 32 := 2#32
  let v0 : BitVec 32 := Scalar.remsi arg0 c2_i32
  let c26_i32 : BitVec 32 := 26#32
  let c0_i32_108 : BitVec 32 := 0#32
  ![v0.toNat, 26, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let c27_i32 : BitVec 32 := 27#32
  let c0_i32_111 : BitVec 32 := 0#32
  ![v0.toNat, 27, 0]
def k0_off30 (i : grid0.Coords) : Fin 3 → Nat :=
  let arg0 : BitVec 32 := BitVec.ofNat 32 (i 0).val
  let c2_i32 : BitVec 32 := 2#32
  let v0 : BitVec 32 := Scalar.remsi arg0 c2_i32
  let c28_i32 : BitVec 32 := 28#32
  let c0_i32_114 : BitVec 32 := 0#32
  ![v0.toNat, 28, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let c29_i32 : BitVec 32 := 29#32
  let c0_i32_117 : BitVec 32 := 0#32
  ![v0.toNat, 29, 0]
def k0_off32 (i : grid0.Coords) : Fin 3 → Nat :=
  let arg0 : BitVec 32 := BitVec.ofNat 32 (i 0).val
  let c2_i32 : BitVec 32 := 2#32
  let v0 : BitVec 32 := Scalar.remsi arg0 c2_i32
  let c30_i32 : BitVec 32 := 30#32
  let c0_i32_120 : BitVec 32 := 0#32
  ![v0.toNat, 30, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let c31_i32 : BitVec 32 := 31#32
  let c0_i32_123 : BitVec 32 := 0#32
  ![v0.toNat, 31, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let c32_i32 : BitVec 32 := 32#32
  let c0_i32_126 : BitVec 32 := 0#32
  ![v0.toNat, 32, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let c33_i32 : BitVec 32 := 33#32
  let c0_i32_129 : BitVec 32 := 0#32
  ![v0.toNat, 33, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let c34_i32 : BitVec 32 := 34#32
  let c0_i32_132 : BitVec 32 := 0#32
  ![v0.toNat, 34, 0]
def k0_off37 (i : grid0.Coords) : Fin 3 → Nat :=
  let arg0 : BitVec 32 := BitVec.ofNat 32 (i 0).val
  let c2_i32 : BitVec 32 := 2#32
  let v0 : BitVec 32 := Scalar.remsi arg0 c2_i32
  let c35_i32 : BitVec 32 := 35#32
  let c0_i32_135 : BitVec 32 := 0#32
  ![v0.toNat, 35, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let c36_i32 : BitVec 32 := 36#32
  let c0_i32_138 : BitVec 32 := 0#32
  ![v0.toNat, 36, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let c37_i32 : BitVec 32 := 37#32
  let c0_i32_141 : BitVec 32 := 0#32
  ![v0.toNat, 37, 0]
def k0_off40 (i : grid0.Coords) : Fin 3 → Nat :=
  let arg0 : BitVec 32 := BitVec.ofNat 32 (i 0).val
  let c2_i32 : BitVec 32 := 2#32
  let v0 : BitVec 32 := Scalar.remsi arg0 c2_i32
  let c38_i32 : BitVec 32 := 38#32
  let c0_i32_144 : BitVec 32 := 0#32
  ![v0.toNat, 38, 0]
def k0_off41 (i : grid0.Coords) : Fin 3 → Nat :=
  let arg0 : BitVec 32 := BitVec.ofNat 32 (i 0).val
  let c2_i32 : BitVec 32 := 2#32
  let v0 : BitVec 32 := Scalar.remsi arg0 c2_i32
  let c39_i32 : BitVec 32 := 39#32
  let c0_i32_147 : BitVec 32 := 0#32
  ![v0.toNat, 39, 0]
def k0_off42 (i : grid0.Coords) : Fin 3 → Nat :=
  let arg0 : BitVec 32 := BitVec.ofNat 32 (i 0).val
  let c2_i32 : BitVec 32 := 2#32
  let v0 : BitVec 32 := Scalar.remsi arg0 c2_i32
  let c40_i32 : BitVec 32 := 40#32
  let c0_i32_150 : BitVec 32 := 0#32
  ![v0.toNat, 40, 0]
def k0_off43 (i : grid0.Coords) : Fin 3 → Nat :=
  let arg0 : BitVec 32 := BitVec.ofNat 32 (i 0).val
  let c2_i32 : BitVec 32 := 2#32
  let v0 : BitVec 32 := Scalar.remsi arg0 c2_i32
  let c41_i32 : BitVec 32 := 41#32
  let c0_i32_153 : BitVec 32 := 0#32
  ![v0.toNat, 41, 0]
def k0_off44 (i : grid0.Coords) : Fin 3 → Nat :=
  let arg0 : BitVec 32 := BitVec.ofNat 32 (i 0).val
  let c2_i32 : BitVec 32 := 2#32
  let v0 : BitVec 32 := Scalar.remsi arg0 c2_i32
  let c42_i32 : BitVec 32 := 42#32
  let c0_i32_156 : BitVec 32 := 0#32
  ![v0.toNat, 42, 0]
def k0_off45 (i : grid0.Coords) : Fin 3 → Nat :=
  let arg0 : BitVec 32 := BitVec.ofNat 32 (i 0).val
  let c2_i32 : BitVec 32 := 2#32
  let v0 : BitVec 32 := Scalar.remsi arg0 c2_i32
  let c43_i32 : BitVec 32 := 43#32
  let c0_i32_159 : BitVec 32 := 0#32
  ![v0.toNat, 43, 0]
def k0_off46 (i : grid0.Coords) : Fin 3 → Nat :=
  let arg0 : BitVec 32 := BitVec.ofNat 32 (i 0).val
  let c2_i32 : BitVec 32 := 2#32
  let v0 : BitVec 32 := Scalar.remsi arg0 c2_i32
  let c44_i32 : BitVec 32 := 44#32
  let c0_i32_162 : BitVec 32 := 0#32
  ![v0.toNat, 44, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let c45_i32 : BitVec 32 := 45#32
  let c0_i32_165 : BitVec 32 := 0#32
  ![v0.toNat, 45, 0]
def k0_off48 (i : grid0.Coords) : Fin 3 → Nat :=
  let arg0 : BitVec 32 := BitVec.ofNat 32 (i 0).val
  let c2_i32 : BitVec 32 := 2#32
  let v0 : BitVec 32 := Scalar.remsi arg0 c2_i32
  let c46_i32 : BitVec 32 := 46#32
  let c0_i32_168 : BitVec 32 := 0#32
  ![v0.toNat, 46, 0]
def k0_off49 (i : grid0.Coords) : Fin 3 → Nat :=
  let arg0 : BitVec 32 := BitVec.ofNat 32 (i 0).val
  let c2_i32 : BitVec 32 := 2#32
  let v0 : BitVec 32 := Scalar.remsi arg0 c2_i32
  let c47_i32 : BitVec 32 := 47#32
  let c0_i32_171 : BitVec 32 := 0#32
  ![v0.toNat, 47, 0]
def k0_off50 (i : grid0.Coords) : Fin 3 → Nat :=
  let arg0 : BitVec 32 := BitVec.ofNat 32 (i 0).val
  let c2_i32 : BitVec 32 := 2#32
  let v0 : BitVec 32 := Scalar.remsi arg0 c2_i32
  let c48_i32 : BitVec 32 := 48#32
  let c0_i32_174 : BitVec 32 := 0#32
  ![v0.toNat, 48, 0]
def k0_off51 (i : grid0.Coords) : Fin 3 → Nat :=
  let arg0 : BitVec 32 := BitVec.ofNat 32 (i 0).val
  let c2_i32 : BitVec 32 := 2#32
  let v0 : BitVec 32 := Scalar.remsi arg0 c2_i32
  let c49_i32 : BitVec 32 := 49#32
  let c0_i32_177 : BitVec 32 := 0#32
  ![v0.toNat, 49, 0]
def k0_off52 (i : grid0.Coords) : Fin 3 → Nat :=
  let arg0 : BitVec 32 := BitVec.ofNat 32 (i 0).val
  let c2_i32 : BitVec 32 := 2#32
  let v0 : BitVec 32 := Scalar.remsi arg0 c2_i32
  let c50_i32 : BitVec 32 := 50#32
  let c0_i32_180 : BitVec 32 := 0#32
  ![v0.toNat, 50, 0]
def k0_off53 (i : grid0.Coords) : Fin 3 → Nat :=
  let arg0 : BitVec 32 := BitVec.ofNat 32 (i 0).val
  let c2_i32 : BitVec 32 := 2#32
  let v0 : BitVec 32 := Scalar.remsi arg0 c2_i32
  let c51_i32 : BitVec 32 := 51#32
  let c0_i32_183 : BitVec 32 := 0#32
  ![v0.toNat, 51, 0]
def k0_off54 (i : grid0.Coords) : Fin 3 → Nat :=
  let arg0 : BitVec 32 := BitVec.ofNat 32 (i 0).val
  let c2_i32 : BitVec 32 := 2#32
  let v0 : BitVec 32 := Scalar.remsi arg0 c2_i32
  let c52_i32 : BitVec 32 := 52#32
  let c0_i32_186 : BitVec 32 := 0#32
  ![v0.toNat, 52, 0]
def k0_off55 (i : grid0.Coords) : Fin 3 → Nat :=
  let arg0 : BitVec 32 := BitVec.ofNat 32 (i 0).val
  let c2_i32 : BitVec 32 := 2#32
  let v0 : BitVec 32 := Scalar.remsi arg0 c2_i32
  let c53_i32 : BitVec 32 := 53#32
  let c0_i32_189 : BitVec 32 := 0#32
  ![v0.toNat, 53, 0]
def k0_off56 (i : grid0.Coords) : Fin 3 → Nat :=
  let arg0 : BitVec 32 := BitVec.ofNat 32 (i 0).val
  let c2_i32 : BitVec 32 := 2#32
  let v0 : BitVec 32 := Scalar.remsi arg0 c2_i32
  let c54_i32 : BitVec 32 := 54#32
  let c0_i32_192 : BitVec 32 := 0#32
  ![v0.toNat, 54, 0]
def k0_off57 (i : grid0.Coords) : Fin 3 → Nat :=
  let arg0 : BitVec 32 := BitVec.ofNat 32 (i 0).val
  let c2_i32 : BitVec 32 := 2#32
  let v0 : BitVec 32 := Scalar.remsi arg0 c2_i32
  let c55_i32 : BitVec 32 := 55#32
  let c0_i32_195 : BitVec 32 := 0#32
  ![v0.toNat, 55, 0]
def k0_off58 (i : grid0.Coords) : Fin 3 → Nat :=
  let arg0 : BitVec 32 := BitVec.ofNat 32 (i 0).val
  let c2_i32 : BitVec 32 := 2#32
  let v0 : BitVec 32 := Scalar.remsi arg0 c2_i32
  let c56_i32 : BitVec 32 := 56#32
  let c0_i32_198 : BitVec 32 := 0#32
  ![v0.toNat, 56, 0]
def k0_off59 (i : grid0.Coords) : Fin 3 → Nat :=
  let arg0 : BitVec 32 := BitVec.ofNat 32 (i 0).val
  let c2_i32 : BitVec 32 := 2#32
  let v0 : BitVec 32 := Scalar.remsi arg0 c2_i32
  let c57_i32 : BitVec 32 := 57#32
  let c0_i32_201 : BitVec 32 := 0#32
  ![v0.toNat, 57, 0]
def k0_off60 (i : grid0.Coords) : Fin 3 → Nat :=
  let arg0 : BitVec 32 := BitVec.ofNat 32 (i 0).val
  let c2_i32 : BitVec 32 := 2#32
  let v0 : BitVec 32 := Scalar.remsi arg0 c2_i32
  let c58_i32 : BitVec 32 := 58#32
  let c0_i32_204 : BitVec 32 := 0#32
  ![v0.toNat, 58, 0]
def k0_off61 (i : grid0.Coords) : Fin 3 → Nat :=
  let arg0 : BitVec 32 := BitVec.ofNat 32 (i 0).val
  let c2_i32 : BitVec 32 := 2#32
  let v0 : BitVec 32 := Scalar.remsi arg0 c2_i32
  let c59_i32 : BitVec 32 := 59#32
  let c0_i32_207 : BitVec 32 := 0#32
  ![v0.toNat, 59, 0]
def k0_off62 (i : grid0.Coords) : Fin 3 → Nat :=
  let arg0 : BitVec 32 := BitVec.ofNat 32 (i 0).val
  let c2_i32 : BitVec 32 := 2#32
  let v0 : BitVec 32 := Scalar.remsi arg0 c2_i32
  let c60_i32 : BitVec 32 := 60#32
  let c0_i32_210 : BitVec 32 := 0#32
  ![v0.toNat, 60, 0]
def k0_off63 (i : grid0.Coords) : Fin 3 → Nat :=
  let arg0 : BitVec 32 := BitVec.ofNat 32 (i 0).val
  let c2_i32 : BitVec 32 := 2#32
  let v0 : BitVec 32 := Scalar.remsi arg0 c2_i32
  let c61_i32 : BitVec 32 := 61#32
  let c0_i32_213 : BitVec 32 := 0#32
  ![v0.toNat, 61, 0]
def k0_off64 (i : grid0.Coords) : Fin 3 → Nat :=
  let arg0 : BitVec 32 := BitVec.ofNat 32 (i 0).val
  let c2_i32 : BitVec 32 := 2#32
  let v0 : BitVec 32 := Scalar.remsi arg0 c2_i32
  let c62_i32 : BitVec 32 := 62#32
  let c0_i32_216 : BitVec 32 := 0#32
  ![v0.toNat, 62, 0]
def k0_off65 (i : grid0.Coords) : Fin 3 → Nat :=
  let arg0 : BitVec 32 := BitVec.ofNat 32 (i 0).val
  let c2_i32 : BitVec 32 := 2#32
  let v0 : BitVec 32 := Scalar.remsi arg0 c2_i32
  let c63_i32 : BitVec 32 := 63#32
  let c0_i32_219 : BitVec 32 := 0#32
  ![v0.toNat, 63, 0]
def k0_off66 (i : grid0.Coords) : Fin 1 → Nat :=
  let arg0 : BitVec 32 := BitVec.ofNat 32 (i 0).val
  let v6 : Index := Scalar.indexCast arg0
  ![v6.toNat]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c0_23 : Index := 0#32
  let arg1 : BitVec 32 := BitVec.ofNat 32 (i 1).val
  let c8192_i32 : BitVec 32 := 8192#32
  let v4 : BitVec 32 := Scalar.muli arg1 c8192_i32
  let c0_i32_1 : BitVec 32 := 0#32
  let v5 : BitVec 32 := Scalar.addi v4 c0_i32_1
  let v73 : Index := Scalar.indexCast v5
  ![v72.toNat, 0, v73.toNat]
def k0_off68 (i : grid0.Coords) : Fin 1 → Nat :=
  let arg0 : BitVec 32 := BitVec.ofNat 32 (i 0).val
  let v11 : Index := Scalar.indexCast arg0
  ![v11.toNat]
def k0_off69 (i : grid0.Coords) : Fin 3 → Nat :=
  let arg0 : BitVec 32 := BitVec.ofNat 32 (i 0).val
  let c2_i32 : BitVec 32 := 2#32
  let v0 : BitVec 32 := Scalar.remsi arg0 c2_i32
  let v56 : Index := Scalar.indexCast v0
  let c0 : Index := 0#32
  let arg1 : BitVec 32 := BitVec.ofNat 32 (i 1).val
  let c8192_i32 : BitVec 32 := 8192#32
  let v4 : BitVec 32 := Scalar.muli arg1 c8192_i32
  let c0_i32_1 : BitVec 32 := 0#32
  let v5 : BitVec 32 := Scalar.addi v4 c0_i32_1
  let v57 : Index := Scalar.indexCast v5
  ![v56.toNat, 0, v57.toNat]
def k0_off70 (i : grid0.Coords) : Fin 1 → Nat :=
  let arg0 : BitVec 32 := BitVec.ofNat 32 (i 0).val
  let v18 : Index := Scalar.indexCast arg0
  ![v18.toNat]
def k0_off71 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c0_22 : Index := 0#32
  let arg1 : BitVec 32 := BitVec.ofNat 32 (i 1).val
  let c8192_i32_4 : BitVec 32 := 8192#32
  let v16 : BitVec 32 := Scalar.muli arg1 c8192_i32_4
  let c2048_i32 : BitVec 32 := 2048#32
  let v17 : BitVec 32 := Scalar.addi v16 c2048_i32
  let v73 : Index := Scalar.indexCast v17
  ![v72.toNat, 0, v73.toNat]
def k0_off72 (i : grid0.Coords) : Fin 1 → Nat :=
  let arg0 : BitVec 32 := BitVec.ofNat 32 (i 0).val
  let v23 : Index := Scalar.indexCast arg0
  ![v23.toNat]
def k0_off73 (i : grid0.Coords) : Fin 3 → Nat :=
  let arg0 : BitVec 32 := BitVec.ofNat 32 (i 0).val
  let c2_i32 : BitVec 32 := 2#32
  let v0 : BitVec 32 := Scalar.remsi arg0 c2_i32
  let v56 : Index := Scalar.indexCast v0
  let c0 : Index := 0#32
  let arg1 : BitVec 32 := BitVec.ofNat 32 (i 1).val
  let c8192_i32_4 : BitVec 32 := 8192#32
  let v16 : BitVec 32 := Scalar.muli arg1 c8192_i32_4
  let c2048_i32 : BitVec 32 := 2048#32
  let v17 : BitVec 32 := Scalar.addi v16 c2048_i32
  let v57 : Index := Scalar.indexCast v17
  ![v56.toNat, 0, v57.toNat]
def k0_off74 (i : grid0.Coords) : Fin 1 → Nat :=
  let arg0 : BitVec 32 := BitVec.ofNat 32 (i 0).val
  let v30 : Index := Scalar.indexCast arg0
  ![v30.toNat]
def k0_off75 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c0_22 : Index := 0#32
  let arg1 : BitVec 32 := BitVec.ofNat 32 (i 1).val
  let c8192_i32_7 : BitVec 32 := 8192#32
  let v28 : BitVec 32 := Scalar.muli arg1 c8192_i32_7
  let c4096_i32 : BitVec 32 := 4096#32
  let v29 : BitVec 32 := Scalar.addi v28 c4096_i32
  let v73 : Index := Scalar.indexCast v29
  ![v72.toNat, 0, v73.toNat]
def k0_off76 (i : grid0.Coords) : Fin 1 → Nat :=
  let arg0 : BitVec 32 := BitVec.ofNat 32 (i 0).val
  let v35 : Index := Scalar.indexCast arg0
  ![v35.toNat]
def k0_off77 (i : grid0.Coords) : Fin 3 → Nat :=
  let arg0 : BitVec 32 := BitVec.ofNat 32 (i 0).val
  let c2_i32 : BitVec 32 := 2#32
  let v0 : BitVec 32 := Scalar.remsi arg0 c2_i32
  let v56 : Index := Scalar.indexCast v0
  let c0 : Index := 0#32
  let arg1 : BitVec 32 := BitVec.ofNat 32 (i 1).val
  let c8192_i32_7 : BitVec 32 := 8192#32
  let v28 : BitVec 32 := Scalar.muli arg1 c8192_i32_7
  let c4096_i32 : BitVec 32 := 4096#32
  let v29 : BitVec 32 := Scalar.addi v28 c4096_i32
  let v57 : Index := Scalar.indexCast v29
  ![v56.toNat, 0, v57.toNat]
def k0_off78 (i : grid0.Coords) : Fin 1 → Nat :=
  let arg0 : BitVec 32 := BitVec.ofNat 32 (i 0).val
  let v42 : Index := Scalar.indexCast arg0
  ![v42.toNat]
def k0_off79 (i : grid0.Coords) : Fin 3 → Nat :=
  let arg0 : BitVec 32 := BitVec.ofNat 32 (i 0).val
  let c2_i32 : BitVec 32 := 2#32
  let v0 : BitVec 32 := Scalar.remsi arg0 c2_i32
  let v72 : Index := Scalar.indexCast v0
  let c0_22 : Index := 0#32
  let arg1 : BitVec 32 := BitVec.ofNat 32 (i 1).val
  let c8192_i32_10 : BitVec 32 := 8192#32
  let v40 : BitVec 32 := Scalar.muli arg1 c8192_i32_10
  let c6144_i32 : BitVec 32 := 6144#32
  let v41 : BitVec 32 := Scalar.addi v40 c6144_i32
  let v73 : Index := Scalar.indexCast v41
  ![v72.toNat, 0, v73.toNat]
def k0_off80 (i : grid0.Coords) : Fin 1 → Nat :=
  let arg0 : BitVec 32 := BitVec.ofNat 32 (i 0).val
  let v47 : Index := Scalar.indexCast arg0
  ![v47.toNat]
def k0_off81 (i : grid0.Coords) : Fin 3 → Nat :=
  let arg0 : BitVec 32 := BitVec.ofNat 32 (i 0).val
  let c2_i32 : BitVec 32 := 2#32
  let v0 : BitVec 32 := Scalar.remsi arg0 c2_i32
  let v56 : Index := Scalar.indexCast v0
  let c0 : Index := 0#32
  let arg1 : BitVec 32 := BitVec.ofNat 32 (i 1).val
  let c8192_i32_10 : BitVec 32 := 8192#32
  let v40 : BitVec 32 := Scalar.muli arg1 c8192_i32_10
  let c6144_i32 : BitVec 32 := 6144#32
  let v41 : BitVec 32 := Scalar.addi v40 c6144_i32
  let v57 : Index := Scalar.indexCast v41
  ![v56.toNat, 0, v57.toNat]
def k0_cond11 (i : grid0.Coords) : BitVec 1 :=
  let arg1 : BitVec 32 := BitVec.ofNat 32 (i 1).val
  let c0_i32_13 : BitVec 32 := 0#32
  let v52 : BitVec 1 := Scalar.cmpi .eq arg1 c0_i32_13
  let v53 : BitVec 32 := Scalar.extui v52
  let c0_i32_14 : BitVec 32 := 0#32
  let v54 : BitVec 1 := Scalar.cmpi .ne v53 c0_i32_14
  v54

def k0_off82 (i : grid0.Coords) : Fin 1 → Nat :=
  let arg0 : BitVec 32 := BitVec.ofNat 32 (i 0).val
  let c64_i32 : BitVec 32 := 64#32
  let v55 : BitVec 32 := Scalar.muli arg0 c64_i32
  let c0_i32_15 : BitVec 32 := 0#32
  let v56 : BitVec 32 := Scalar.addi v55 c0_i32_15
  let v57 : Index := Scalar.indexCast v56
  ![v57.toNat]
def k0_off83 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off84 (v58 : BitVec 32) : Fin 2 → Nat :=
  let c0_i32_16 : BitVec 32 := 0#32
  ![v58.toNat, 0]

def k0_chk1 (i : grid0.Coords) (v58 : BitVec 32) : Prop :=
  (∀ (k0_h11 : k0_cond11 i = 1#1), ∀ a, (k0_off84 v58) a + S1x8192.size a ≤ S512x8192.size a)
theorem k0_off84_inb : ∀ (i : grid0.Coords) (v58 : BitVec 32) (k0_hw1 : k0_chk1 i v58), ∀ (k0_h11 : k0_cond11 i = 1#1), ∀ a, (k0_off84 v58) a + S1x8192.size a ≤ S512x8192.size a := fun i v58 k0_hw1 k0_h11 => k0_hw1 k0_h11

def k0_off85 (i : grid0.Coords) : Fin 3 → Nat :=
  let arg0 : BitVec 32 := BitVec.ofNat 32 (i 0).val
  let c2_i32 : BitVec 32 := 2#32
  let v0 : BitVec 32 := Scalar.remsi arg0 c2_i32
  let c0_i32_17 : BitVec 32 := 0#32
  let c0_i32_18 : BitVec 32 := 0#32
  ![v0.toNat, 0, 0]
def k0_off86 (i : grid0.Coords) : Fin 1 → Nat :=
  let arg0 : BitVec 32 := BitVec.ofNat 32 (i 0).val
  let c64_i32_19 : BitVec 32 := 64#32
  let v64 : BitVec 32 := Scalar.muli arg0 c64_i32_19
  let c1_i32 : BitVec 32 := 1#32
  let v65 : BitVec 32 := Scalar.addi v64 c1_i32
  let v66 : Index := Scalar.indexCast v65
  ![v66.toNat]
def k0_off87 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off88 (v67 : BitVec 32) : Fin 2 → Nat :=
  let c0_i32_20 : BitVec 32 := 0#32
  ![v67.toNat, 0]

def k0_chk2 (i : grid0.Coords) (v67 : BitVec 32) : Prop :=
  (∀ (k0_h11 : k0_cond11 i = 1#1), ∀ a, (k0_off88 v67) a + S1x8192.size a ≤ S512x8192.size a)
theorem k0_off88_inb : ∀ (i : grid0.Coords) (v67 : BitVec 32) (k0_hw2 : k0_chk2 i v67), ∀ (k0_h11 : k0_cond11 i = 1#1), ∀ a, (k0_off88 v67) a + S1x8192.size a ≤ S512x8192.size a := fun i v67 k0_hw2 k0_h11 => k0_hw2 k0_h11

def k0_off89 (i : grid0.Coords) : Fin 3 → Nat :=
  let arg0 : BitVec 32 := BitVec.ofNat 32 (i 0).val
  let c2_i32 : BitVec 32 := 2#32
  let v0 : BitVec 32 := Scalar.remsi arg0 c2_i32
  let c1_i32_21 : BitVec 32 := 1#32
  let c0_i32_22 : BitVec 32 := 0#32
  ![v0.toNat, 1, 0]
def k0_off90 (i : grid0.Coords) : Fin 1 → Nat :=
  let arg0 : BitVec 32 := BitVec.ofNat 32 (i 0).val
  let c64_i32_23 : BitVec 32 := 64#32
  let v73 : BitVec 32 := Scalar.muli arg0 c64_i32_23
  let c2_i32_24 : BitVec 32 := 2#32
  let v74 : BitVec 32 := Scalar.addi v73 c2_i32_24
  let v75 : Index := Scalar.indexCast v74
  ![v75.toNat]
def k0_off91 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off92 (v76 : BitVec 32) : Fin 2 → Nat :=
  let c0_i32_25 : BitVec 32 := 0#32
  ![v76.toNat, 0]

def k0_chk3 (i : grid0.Coords) (v76 : BitVec 32) : Prop :=
  (∀ (k0_h11 : k0_cond11 i = 1#1), ∀ a, (k0_off92 v76) a + S1x8192.size a ≤ S512x8192.size a)
theorem k0_off92_inb : ∀ (i : grid0.Coords) (v76 : BitVec 32) (k0_hw3 : k0_chk3 i v76), ∀ (k0_h11 : k0_cond11 i = 1#1), ∀ a, (k0_off92 v76) a + S1x8192.size a ≤ S512x8192.size a := fun i v76 k0_hw3 k0_h11 => k0_hw3 k0_h11

def k0_off93 (i : grid0.Coords) : Fin 3 → Nat :=
  let arg0 : BitVec 32 := BitVec.ofNat 32 (i 0).val
  let c2_i32 : BitVec 32 := 2#32
  let v0 : BitVec 32 := Scalar.remsi arg0 c2_i32
  let c2_i32_26 : BitVec 32 := 2#32
  let c0_i32_27 : BitVec 32 := 0#32
  ![v0.toNat, 2, 0]
def k0_off94 (i : grid0.Coords) : Fin 1 → Nat :=
  let arg0 : BitVec 32 := BitVec.ofNat 32 (i 0).val
  let c64_i32_28 : BitVec 32 := 64#32
  let v82 : BitVec 32 := Scalar.muli arg0 c64_i32_28
  let c3_i32 : BitVec 32 := 3#32
  let v83 : BitVec 32 := Scalar.addi v82 c3_i32
  let v84 : Index := Scalar.indexCast v83
  ![v84.toNat]
def k0_off95 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off96 (v85 : BitVec 32) : Fin 2 → Nat :=
  let c0_i32_29 : BitVec 32 := 0#32
  ![v85.toNat, 0]

def k0_chk4 (i : grid0.Coords) (v85 : BitVec 32) : Prop :=
  (∀ (k0_h11 : k0_cond11 i = 1#1), ∀ a, (k0_off96 v85) a + S1x8192.size a ≤ S512x8192.size a)
theorem k0_off96_inb : ∀ (i : grid0.Coords) (v85 : BitVec 32) (k0_hw4 : k0_chk4 i v85), ∀ (k0_h11 : k0_cond11 i = 1#1), ∀ a, (k0_off96 v85) a + S1x8192.size a ≤ S512x8192.size a := fun i v85 k0_hw4 k0_h11 => k0_hw4 k0_h11

def k0_off97 (i : grid0.Coords) : Fin 3 → Nat :=
  let arg0 : BitVec 32 := BitVec.ofNat 32 (i 0).val
  let c2_i32 : BitVec 32 := 2#32
  let v0 : BitVec 32 := Scalar.remsi arg0 c2_i32
  let c3_i32_30 : BitVec 32 := 3#32
  let c0_i32_31 : BitVec 32 := 0#32
  ![v0.toNat, 3, 0]
def k0_off98 (i : grid0.Coords) : Fin 1 → Nat :=
  let arg0 : BitVec 32 := BitVec.ofNat 32 (i 0).val
  let c64_i32_32 : BitVec 32 := 64#32
  let v91 : BitVec 32 := Scalar.muli arg0 c64_i32_32
  let c4_i32 : BitVec 32 := 4#32
  let v92 : BitVec 32 := Scalar.addi v91 c4_i32
  let v93 : Index := Scalar.indexCast v92
  ![v93.toNat]
def k0_off99 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off100 (v94 : BitVec 32) : Fin 2 → Nat :=
  let c0_i32_33 : BitVec 32 := 0#32
  ![v94.toNat, 0]

def k0_chk5 (i : grid0.Coords) (v94 : BitVec 32) : Prop :=
  (∀ (k0_h11 : k0_cond11 i = 1#1), ∀ a, (k0_off100 v94) a + S1x8192.size a ≤ S512x8192.size a)
theorem k0_off100_inb : ∀ (i : grid0.Coords) (v94 : BitVec 32) (k0_hw5 : k0_chk5 i v94), ∀ (k0_h11 : k0_cond11 i = 1#1), ∀ a, (k0_off100 v94) a + S1x8192.size a ≤ S512x8192.size a := fun i v94 k0_hw5 k0_h11 => k0_hw5 k0_h11

def k0_off101 (i : grid0.Coords) : Fin 3 → Nat :=
  let arg0 : BitVec 32 := BitVec.ofNat 32 (i 0).val
  let c2_i32 : BitVec 32 := 2#32
  let v0 : BitVec 32 := Scalar.remsi arg0 c2_i32
  let c4_i32_34 : BitVec 32 := 4#32
  let c0_i32_35 : BitVec 32 := 0#32
  ![v0.toNat, 4, 0]
def k0_off102 (i : grid0.Coords) : Fin 1 → Nat :=
  let arg0 : BitVec 32 := BitVec.ofNat 32 (i 0).val
  let c64_i32_36 : BitVec 32 := 64#32
  let v100 : BitVec 32 := Scalar.muli arg0 c64_i32_36
  let c5_i32 : BitVec 32 := 5#32
  let v101 : BitVec 32 := Scalar.addi v100 c5_i32
  let v102 : Index := Scalar.indexCast v101
  ![v102.toNat]
def k0_off103 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off104 (v103 : BitVec 32) : Fin 2 → Nat :=
  let c0_i32_37 : BitVec 32 := 0#32
  ![v103.toNat, 0]

def k0_chk6 (i : grid0.Coords) (v103 : BitVec 32) : Prop :=
  (∀ (k0_h11 : k0_cond11 i = 1#1), ∀ a, (k0_off104 v103) a + S1x8192.size a ≤ S512x8192.size a)
theorem k0_off104_inb : ∀ (i : grid0.Coords) (v103 : BitVec 32) (k0_hw6 : k0_chk6 i v103), ∀ (k0_h11 : k0_cond11 i = 1#1), ∀ a, (k0_off104 v103) a + S1x8192.size a ≤ S512x8192.size a := fun i v103 k0_hw6 k0_h11 => k0_hw6 k0_h11

def k0_off105 (i : grid0.Coords) : Fin 3 → Nat :=
  let arg0 : BitVec 32 := BitVec.ofNat 32 (i 0).val
  let c2_i32 : BitVec 32 := 2#32
  let v0 : BitVec 32 := Scalar.remsi arg0 c2_i32
  let c5_i32_38 : BitVec 32 := 5#32
  let c0_i32_39 : BitVec 32 := 0#32
  ![v0.toNat, 5, 0]
def k0_off106 (i : grid0.Coords) : Fin 1 → Nat :=
  let arg0 : BitVec 32 := BitVec.ofNat 32 (i 0).val
  let c64_i32_40 : BitVec 32 := 64#32
  let v109 : BitVec 32 := Scalar.muli arg0 c64_i32_40
  let c6_i32 : BitVec 32 := 6#32
  let v110 : BitVec 32 := Scalar.addi v109 c6_i32
  let v111 : Index := Scalar.indexCast v110
  ![v111.toNat]
def k0_off107 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off108 (v112 : BitVec 32) : Fin 2 → Nat :=
  let c0_i32_41 : BitVec 32 := 0#32
  ![v112.toNat, 0]

def k0_chk7 (i : grid0.Coords) (v112 : BitVec 32) : Prop :=
  (∀ (k0_h11 : k0_cond11 i = 1#1), ∀ a, (k0_off108 v112) a + S1x8192.size a ≤ S512x8192.size a)
theorem k0_off108_inb : ∀ (i : grid0.Coords) (v112 : BitVec 32) (k0_hw7 : k0_chk7 i v112), ∀ (k0_h11 : k0_cond11 i = 1#1), ∀ a, (k0_off108 v112) a + S1x8192.size a ≤ S512x8192.size a := fun i v112 k0_hw7 k0_h11 => k0_hw7 k0_h11

def k0_off109 (i : grid0.Coords) : Fin 3 → Nat :=
  let arg0 : BitVec 32 := BitVec.ofNat 32 (i 0).val
  let c2_i32 : BitVec 32 := 2#32
  let v0 : BitVec 32 := Scalar.remsi arg0 c2_i32
  let c6_i32_42 : BitVec 32 := 6#32
  let c0_i32_43 : BitVec 32 := 0#32
  ![v0.toNat, 6, 0]
def k0_off110 (i : grid0.Coords) : Fin 1 → Nat :=
  let arg0 : BitVec 32 := BitVec.ofNat 32 (i 0).val
  let c64_i32_44 : BitVec 32 := 64#32
  let v118 : BitVec 32 := Scalar.muli arg0 c64_i32_44
  let c7_i32 : BitVec 32 := 7#32
  let v119 : BitVec 32 := Scalar.addi v118 c7_i32
  let v120 : Index := Scalar.indexCast v119
  ![v120.toNat]
def k0_off111 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off112 (v121 : BitVec 32) : Fin 2 → Nat :=
  let c0_i32_45 : BitVec 32 := 0#32
  ![v121.toNat, 0]

def k0_chk8 (i : grid0.Coords) (v121 : BitVec 32) : Prop :=
  (∀ (k0_h11 : k0_cond11 i = 1#1), ∀ a, (k0_off112 v121) a + S1x8192.size a ≤ S512x8192.size a)
theorem k0_off112_inb : ∀ (i : grid0.Coords) (v121 : BitVec 32) (k0_hw8 : k0_chk8 i v121), ∀ (k0_h11 : k0_cond11 i = 1#1), ∀ a, (k0_off112 v121) a + S1x8192.size a ≤ S512x8192.size a := fun i v121 k0_hw8 k0_h11 => k0_hw8 k0_h11

def k0_off113 (i : grid0.Coords) : Fin 3 → Nat :=
  let arg0 : BitVec 32 := BitVec.ofNat 32 (i 0).val
  let c2_i32 : BitVec 32 := 2#32
  let v0 : BitVec 32 := Scalar.remsi arg0 c2_i32
  let c7_i32_46 : BitVec 32 := 7#32
  let c0_i32_47 : BitVec 32 := 0#32
  ![v0.toNat, 7, 0]
def k0_off114 (i : grid0.Coords) : Fin 1 → Nat :=
  let arg0 : BitVec 32 := BitVec.ofNat 32 (i 0).val
  let c64_i32_48 : BitVec 32 := 64#32
  let v127 : BitVec 32 := Scalar.muli arg0 c64_i32_48
  let c8_i32 : BitVec 32 := 8#32
  let v128 : BitVec 32 := Scalar.addi v127 c8_i32
  let v129 : Index := Scalar.indexCast v128
  ![v129.toNat]
def k0_off115 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off116 (v130 : BitVec 32) : Fin 2 → Nat :=
  let c0_i32_49 : BitVec 32 := 0#32
  ![v130.toNat, 0]

def k0_chk9 (i : grid0.Coords) (v130 : BitVec 32) : Prop :=
  (∀ (k0_h11 : k0_cond11 i = 1#1), ∀ a, (k0_off116 v130) a + S1x8192.size a ≤ S512x8192.size a)
theorem k0_off116_inb : ∀ (i : grid0.Coords) (v130 : BitVec 32) (k0_hw9 : k0_chk9 i v130), ∀ (k0_h11 : k0_cond11 i = 1#1), ∀ a, (k0_off116 v130) a + S1x8192.size a ≤ S512x8192.size a := fun i v130 k0_hw9 k0_h11 => k0_hw9 k0_h11

def k0_off117 (i : grid0.Coords) : Fin 3 → Nat :=
  let arg0 : BitVec 32 := BitVec.ofNat 32 (i 0).val
  let c2_i32 : BitVec 32 := 2#32
  let v0 : BitVec 32 := Scalar.remsi arg0 c2_i32
  let c8_i32_50 : BitVec 32 := 8#32
  let c0_i32_51 : BitVec 32 := 0#32
  ![v0.toNat, 8, 0]
def k0_off118 (i : grid0.Coords) : Fin 1 → Nat :=
  let arg0 : BitVec 32 := BitVec.ofNat 32 (i 0).val
  let c64_i32_52 : BitVec 32 := 64#32
  let v136 : BitVec 32 := Scalar.muli arg0 c64_i32_52
  let c9_i32 : BitVec 32 := 9#32
  let v137 : BitVec 32 := Scalar.addi v136 c9_i32
  let v138 : Index := Scalar.indexCast v137
  ![v138.toNat]
def k0_off119 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off120 (v139 : BitVec 32) : Fin 2 → Nat :=
  let c0_i32_53 : BitVec 32 := 0#32
  ![v139.toNat, 0]

def k0_chk10 (i : grid0.Coords) (v139 : BitVec 32) : Prop :=
  (∀ (k0_h11 : k0_cond11 i = 1#1), ∀ a, (k0_off120 v139) a + S1x8192.size a ≤ S512x8192.size a)
theorem k0_off120_inb : ∀ (i : grid0.Coords) (v139 : BitVec 32) (k0_hw10 : k0_chk10 i v139), ∀ (k0_h11 : k0_cond11 i = 1#1), ∀ a, (k0_off120 v139) a + S1x8192.size a ≤ S512x8192.size a := fun i v139 k0_hw10 k0_h11 => k0_hw10 k0_h11

def k0_off121 (i : grid0.Coords) : Fin 3 → Nat :=
  let arg0 : BitVec 32 := BitVec.ofNat 32 (i 0).val
  let c2_i32 : BitVec 32 := 2#32
  let v0 : BitVec 32 := Scalar.remsi arg0 c2_i32
  let c9_i32_54 : BitVec 32 := 9#32
  let c0_i32_55 : BitVec 32 := 0#32
  ![v0.toNat, 9, 0]
def k0_off122 (i : grid0.Coords) : Fin 1 → Nat :=
  let arg0 : BitVec 32 := BitVec.ofNat 32 (i 0).val
  let c64_i32_56 : BitVec 32 := 64#32
  let v145 : BitVec 32 := Scalar.muli arg0 c64_i32_56
  let c10_i32 : BitVec 32 := 10#32
  let v146 : BitVec 32 := Scalar.addi v145 c10_i32
  let v147 : Index := Scalar.indexCast v146
  ![v147.toNat]
def k0_off123 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off124 (v148 : BitVec 32) : Fin 2 → Nat :=
  let c0_i32_57 : BitVec 32 := 0#32
  ![v148.toNat, 0]

def k0_chk11 (i : grid0.Coords) (v148 : BitVec 32) : Prop :=
  (∀ (k0_h11 : k0_cond11 i = 1#1), ∀ a, (k0_off124 v148) a + S1x8192.size a ≤ S512x8192.size a)
theorem k0_off124_inb : ∀ (i : grid0.Coords) (v148 : BitVec 32) (k0_hw11 : k0_chk11 i v148), ∀ (k0_h11 : k0_cond11 i = 1#1), ∀ a, (k0_off124 v148) a + S1x8192.size a ≤ S512x8192.size a := fun i v148 k0_hw11 k0_h11 => k0_hw11 k0_h11

def k0_off125 (i : grid0.Coords) : Fin 3 → Nat :=
  let arg0 : BitVec 32 := BitVec.ofNat 32 (i 0).val
  let c2_i32 : BitVec 32 := 2#32
  let v0 : BitVec 32 := Scalar.remsi arg0 c2_i32
  let c10_i32_58 : BitVec 32 := 10#32
  let c0_i32_59 : BitVec 32 := 0#32
  ![v0.toNat, 10, 0]
def k0_off126 (i : grid0.Coords) : Fin 1 → Nat :=
  let arg0 : BitVec 32 := BitVec.ofNat 32 (i 0).val
  let c64_i32_60 : BitVec 32 := 64#32
  let v154 : BitVec 32 := Scalar.muli arg0 c64_i32_60
  let c11_i32 : BitVec 32 := 11#32
  let v155 : BitVec 32 := Scalar.addi v154 c11_i32
  let v156 : Index := Scalar.indexCast v155
  ![v156.toNat]
def k0_off127 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off128 (v157 : BitVec 32) : Fin 2 → Nat :=
  let c0_i32_61 : BitVec 32 := 0#32
  ![v157.toNat, 0]

def k0_chk12 (i : grid0.Coords) (v157 : BitVec 32) : Prop :=
  (∀ (k0_h11 : k0_cond11 i = 1#1), ∀ a, (k0_off128 v157) a + S1x8192.size a ≤ S512x8192.size a)
theorem k0_off128_inb : ∀ (i : grid0.Coords) (v157 : BitVec 32) (k0_hw12 : k0_chk12 i v157), ∀ (k0_h11 : k0_cond11 i = 1#1), ∀ a, (k0_off128 v157) a + S1x8192.size a ≤ S512x8192.size a := fun i v157 k0_hw12 k0_h11 => k0_hw12 k0_h11

def k0_off129 (i : grid0.Coords) : Fin 3 → Nat :=
  let arg0 : BitVec 32 := BitVec.ofNat 32 (i 0).val
  let c2_i32 : BitVec 32 := 2#32
  let v0 : BitVec 32 := Scalar.remsi arg0 c2_i32
  let c11_i32_62 : BitVec 32 := 11#32
  let c0_i32_63 : BitVec 32 := 0#32
  ![v0.toNat, 11, 0]
def k0_off130 (i : grid0.Coords) : Fin 1 → Nat :=
  let arg0 : BitVec 32 := BitVec.ofNat 32 (i 0).val
  let c64_i32_64 : BitVec 32 := 64#32
  let v163 : BitVec 32 := Scalar.muli arg0 c64_i32_64
  let c12_i32 : BitVec 32 := 12#32
  let v164 : BitVec 32 := Scalar.addi v163 c12_i32
  let v165 : Index := Scalar.indexCast v164
  ![v165.toNat]
def k0_off131 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off132 (v166 : BitVec 32) : Fin 2 → Nat :=
  let c0_i32_65 : BitVec 32 := 0#32
  ![v166.toNat, 0]

def k0_chk13 (i : grid0.Coords) (v166 : BitVec 32) : Prop :=
  (∀ (k0_h11 : k0_cond11 i = 1#1), ∀ a, (k0_off132 v166) a + S1x8192.size a ≤ S512x8192.size a)
theorem k0_off132_inb : ∀ (i : grid0.Coords) (v166 : BitVec 32) (k0_hw13 : k0_chk13 i v166), ∀ (k0_h11 : k0_cond11 i = 1#1), ∀ a, (k0_off132 v166) a + S1x8192.size a ≤ S512x8192.size a := fun i v166 k0_hw13 k0_h11 => k0_hw13 k0_h11

def k0_off133 (i : grid0.Coords) : Fin 3 → Nat :=
  let arg0 : BitVec 32 := BitVec.ofNat 32 (i 0).val
  let c2_i32 : BitVec 32 := 2#32
  let v0 : BitVec 32 := Scalar.remsi arg0 c2_i32
  let c12_i32_66 : BitVec 32 := 12#32
  let c0_i32_67 : BitVec 32 := 0#32
  ![v0.toNat, 12, 0]
def k0_off134 (i : grid0.Coords) : Fin 1 → Nat :=
  let arg0 : BitVec 32 := BitVec.ofNat 32 (i 0).val
  let c64_i32_68 : BitVec 32 := 64#32
  let v172 : BitVec 32 := Scalar.muli arg0 c64_i32_68
  let c13_i32 : BitVec 32 := 13#32
  let v173 : BitVec 32 := Scalar.addi v172 c13_i32
  let v174 : Index := Scalar.indexCast v173
  ![v174.toNat]
def k0_off135 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off136 (v175 : BitVec 32) : Fin 2 → Nat :=
  let c0_i32_69 : BitVec 32 := 0#32
  ![v175.toNat, 0]

def k0_chk14 (i : grid0.Coords) (v175 : BitVec 32) : Prop :=
  (∀ (k0_h11 : k0_cond11 i = 1#1), ∀ a, (k0_off136 v175) a + S1x8192.size a ≤ S512x8192.size a)
theorem k0_off136_inb : ∀ (i : grid0.Coords) (v175 : BitVec 32) (k0_hw14 : k0_chk14 i v175), ∀ (k0_h11 : k0_cond11 i = 1#1), ∀ a, (k0_off136 v175) a + S1x8192.size a ≤ S512x8192.size a := fun i v175 k0_hw14 k0_h11 => k0_hw14 k0_h11

def k0_off137 (i : grid0.Coords) : Fin 3 → Nat :=
  let arg0 : BitVec 32 := BitVec.ofNat 32 (i 0).val
  let c2_i32 : BitVec 32 := 2#32
  let v0 : BitVec 32 := Scalar.remsi arg0 c2_i32
  let c13_i32_70 : BitVec 32 := 13#32
  let c0_i32_71 : BitVec 32 := 0#32
  ![v0.toNat, 13, 0]
def k0_off138 (i : grid0.Coords) : Fin 1 → Nat :=
  let arg0 : BitVec 32 := BitVec.ofNat 32 (i 0).val
  let c64_i32_72 : BitVec 32 := 64#32
  let v181 : BitVec 32 := Scalar.muli arg0 c64_i32_72
  let c14_i32 : BitVec 32 := 14#32
  let v182 : BitVec 32 := Scalar.addi v181 c14_i32
  let v183 : Index := Scalar.indexCast v182
  ![v183.toNat]
def k0_off139 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off140 (v184 : BitVec 32) : Fin 2 → Nat :=
  let c0_i32_73 : BitVec 32 := 0#32
  ![v184.toNat, 0]

def k0_chk15 (i : grid0.Coords) (v184 : BitVec 32) : Prop :=
  (∀ (k0_h11 : k0_cond11 i = 1#1), ∀ a, (k0_off140 v184) a + S1x8192.size a ≤ S512x8192.size a)
theorem k0_off140_inb : ∀ (i : grid0.Coords) (v184 : BitVec 32) (k0_hw15 : k0_chk15 i v184), ∀ (k0_h11 : k0_cond11 i = 1#1), ∀ a, (k0_off140 v184) a + S1x8192.size a ≤ S512x8192.size a := fun i v184 k0_hw15 k0_h11 => k0_hw15 k0_h11

def k0_off141 (i : grid0.Coords) : Fin 3 → Nat :=
  let arg0 : BitVec 32 := BitVec.ofNat 32 (i 0).val
  let c2_i32 : BitVec 32 := 2#32
  let v0 : BitVec 32 := Scalar.remsi arg0 c2_i32
  let c14_i32_74 : BitVec 32 := 14#32
  let c0_i32_75 : BitVec 32 := 0#32
  ![v0.toNat, 14, 0]
def k0_off142 (i : grid0.Coords) : Fin 1 → Nat :=
  let arg0 : BitVec 32 := BitVec.ofNat 32 (i 0).val
  let c64_i32_76 : BitVec 32 := 64#32
  let v190 : BitVec 32 := Scalar.muli arg0 c64_i32_76
  let c15_i32 : BitVec 32 := 15#32
  let v191 : BitVec 32 := Scalar.addi v190 c15_i32
  let v192 : Index := Scalar.indexCast v191
  ![v192.toNat]
def k0_off143 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off144 (v193 : BitVec 32) : Fin 2 → Nat :=
  let c0_i32_77 : BitVec 32 := 0#32
  ![v193.toNat, 0]

def k0_chk16 (i : grid0.Coords) (v193 : BitVec 32) : Prop :=
  (∀ (k0_h11 : k0_cond11 i = 1#1), ∀ a, (k0_off144 v193) a + S1x8192.size a ≤ S512x8192.size a)
theorem k0_off144_inb : ∀ (i : grid0.Coords) (v193 : BitVec 32) (k0_hw16 : k0_chk16 i v193), ∀ (k0_h11 : k0_cond11 i = 1#1), ∀ a, (k0_off144 v193) a + S1x8192.size a ≤ S512x8192.size a := fun i v193 k0_hw16 k0_h11 => k0_hw16 k0_h11

def k0_off145 (i : grid0.Coords) : Fin 3 → Nat :=
  let arg0 : BitVec 32 := BitVec.ofNat 32 (i 0).val
  let c2_i32 : BitVec 32 := 2#32
  let v0 : BitVec 32 := Scalar.remsi arg0 c2_i32
  let c15_i32_78 : BitVec 32 := 15#32
  let c0_i32_79 : BitVec 32 := 0#32
  ![v0.toNat, 15, 0]
def k0_off146 (i : grid0.Coords) : Fin 1 → Nat :=
  let arg0 : BitVec 32 := BitVec.ofNat 32 (i 0).val
  let c64_i32_80 : BitVec 32 := 64#32
  let v199 : BitVec 32 := Scalar.muli arg0 c64_i32_80
  let c16_i32 : BitVec 32 := 16#32
  let v200 : BitVec 32 := Scalar.addi v199 c16_i32
  let v201 : Index := Scalar.indexCast v200
  ![v201.toNat]
def k0_off147 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off148 (v202 : BitVec 32) : Fin 2 → Nat :=
  let c0_i32_81 : BitVec 32 := 0#32
  ![v202.toNat, 0]

def k0_chk17 (i : grid0.Coords) (v202 : BitVec 32) : Prop :=
  (∀ (k0_h11 : k0_cond11 i = 1#1), ∀ a, (k0_off148 v202) a + S1x8192.size a ≤ S512x8192.size a)
theorem k0_off148_inb : ∀ (i : grid0.Coords) (v202 : BitVec 32) (k0_hw17 : k0_chk17 i v202), ∀ (k0_h11 : k0_cond11 i = 1#1), ∀ a, (k0_off148 v202) a + S1x8192.size a ≤ S512x8192.size a := fun i v202 k0_hw17 k0_h11 => k0_hw17 k0_h11

def k0_off149 (i : grid0.Coords) : Fin 3 → Nat :=
  let arg0 : BitVec 32 := BitVec.ofNat 32 (i 0).val
  let c2_i32 : BitVec 32 := 2#32
  let v0 : BitVec 32 := Scalar.remsi arg0 c2_i32
  let c16_i32_82 : BitVec 32 := 16#32
  let c0_i32_83 : BitVec 32 := 0#32
  ![v0.toNat, 16, 0]
def k0_off150 (i : grid0.Coords) : Fin 1 → Nat :=
  let arg0 : BitVec 32 := BitVec.ofNat 32 (i 0).val
  let c64_i32_84 : BitVec 32 := 64#32
  let v208 : BitVec 32 := Scalar.muli arg0 c64_i32_84
  let c17_i32 : BitVec 32 := 17#32
  let v209 : BitVec 32 := Scalar.addi v208 c17_i32
  let v210 : Index := Scalar.indexCast v209
  ![v210.toNat]
def k0_off151 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off152 (v211 : BitVec 32) : Fin 2 → Nat :=
  let c0_i32_85 : BitVec 32 := 0#32
  ![v211.toNat, 0]

def k0_chk18 (i : grid0.Coords) (v211 : BitVec 32) : Prop :=
  (∀ (k0_h11 : k0_cond11 i = 1#1), ∀ a, (k0_off152 v211) a + S1x8192.size a ≤ S512x8192.size a)
theorem k0_off152_inb : ∀ (i : grid0.Coords) (v211 : BitVec 32) (k0_hw18 : k0_chk18 i v211), ∀ (k0_h11 : k0_cond11 i = 1#1), ∀ a, (k0_off152 v211) a + S1x8192.size a ≤ S512x8192.size a := fun i v211 k0_hw18 k0_h11 => k0_hw18 k0_h11

def k0_off153 (i : grid0.Coords) : Fin 3 → Nat :=
  let arg0 : BitVec 32 := BitVec.ofNat 32 (i 0).val
  let c2_i32 : BitVec 32 := 2#32
  let v0 : BitVec 32 := Scalar.remsi arg0 c2_i32
  let c17_i32_86 : BitVec 32 := 17#32
  let c0_i32_87 : BitVec 32 := 0#32
  ![v0.toNat, 17, 0]
def k0_off154 (i : grid0.Coords) : Fin 1 → Nat :=
  let arg0 : BitVec 32 := BitVec.ofNat 32 (i 0).val
  let c64_i32_88 : BitVec 32 := 64#32
  let v217 : BitVec 32 := Scalar.muli arg0 c64_i32_88
  let c18_i32 : BitVec 32 := 18#32
  let v218 : BitVec 32 := Scalar.addi v217 c18_i32
  let v219 : Index := Scalar.indexCast v218
  ![v219.toNat]
def k0_off155 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off156 (v220 : BitVec 32) : Fin 2 → Nat :=
  let c0_i32_89 : BitVec 32 := 0#32
  ![v220.toNat, 0]

def k0_chk19 (i : grid0.Coords) (v220 : BitVec 32) : Prop :=
  (∀ (k0_h11 : k0_cond11 i = 1#1), ∀ a, (k0_off156 v220) a + S1x8192.size a ≤ S512x8192.size a)
theorem k0_off156_inb : ∀ (i : grid0.Coords) (v220 : BitVec 32) (k0_hw19 : k0_chk19 i v220), ∀ (k0_h11 : k0_cond11 i = 1#1), ∀ a, (k0_off156 v220) a + S1x8192.size a ≤ S512x8192.size a := fun i v220 k0_hw19 k0_h11 => k0_hw19 k0_h11

def k0_off157 (i : grid0.Coords) : Fin 3 → Nat :=
  let arg0 : BitVec 32 := BitVec.ofNat 32 (i 0).val
  let c2_i32 : BitVec 32 := 2#32
  let v0 : BitVec 32 := Scalar.remsi arg0 c2_i32
  let c18_i32_90 : BitVec 32 := 18#32
  let c0_i32_91 : BitVec 32 := 0#32
  ![v0.toNat, 18, 0]
def k0_off158 (i : grid0.Coords) : Fin 1 → Nat :=
  let arg0 : BitVec 32 := BitVec.ofNat 32 (i 0).val
  let c64_i32_92 : BitVec 32 := 64#32
  let v226 : BitVec 32 := Scalar.muli arg0 c64_i32_92
  let c19_i32 : BitVec 32 := 19#32
  let v227 : BitVec 32 := Scalar.addi v226 c19_i32
  let v228 : Index := Scalar.indexCast v227
  ![v228.toNat]
def k0_off159 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off160 (v229 : BitVec 32) : Fin 2 → Nat :=
  let c0_i32_93 : BitVec 32 := 0#32
  ![v229.toNat, 0]

def k0_chk20 (i : grid0.Coords) (v229 : BitVec 32) : Prop :=
  (∀ (k0_h11 : k0_cond11 i = 1#1), ∀ a, (k0_off160 v229) a + S1x8192.size a ≤ S512x8192.size a)
theorem k0_off160_inb : ∀ (i : grid0.Coords) (v229 : BitVec 32) (k0_hw20 : k0_chk20 i v229), ∀ (k0_h11 : k0_cond11 i = 1#1), ∀ a, (k0_off160 v229) a + S1x8192.size a ≤ S512x8192.size a := fun i v229 k0_hw20 k0_h11 => k0_hw20 k0_h11

def k0_off161 (i : grid0.Coords) : Fin 3 → Nat :=
  let arg0 : BitVec 32 := BitVec.ofNat 32 (i 0).val
  let c2_i32 : BitVec 32 := 2#32
  let v0 : BitVec 32 := Scalar.remsi arg0 c2_i32
  let c19_i32_94 : BitVec 32 := 19#32
  let c0_i32_95 : BitVec 32 := 0#32
  ![v0.toNat, 19, 0]
def k0_off162 (i : grid0.Coords) : Fin 1 → Nat :=
  let arg0 : BitVec 32 := BitVec.ofNat 32 (i 0).val
  let c64_i32_96 : BitVec 32 := 64#32
  let v235 : BitVec 32 := Scalar.muli arg0 c64_i32_96
  let c20_i32 : BitVec 32 := 20#32
  let v236 : BitVec 32 := Scalar.addi v235 c20_i32
  let v237 : Index := Scalar.indexCast v236
  ![v237.toNat]
def k0_off163 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off164 (v238 : BitVec 32) : Fin 2 → Nat :=
  let c0_i32_97 : BitVec 32 := 0#32
  ![v238.toNat, 0]

def k0_chk21 (i : grid0.Coords) (v238 : BitVec 32) : Prop :=
  (∀ (k0_h11 : k0_cond11 i = 1#1), ∀ a, (k0_off164 v238) a + S1x8192.size a ≤ S512x8192.size a)
theorem k0_off164_inb : ∀ (i : grid0.Coords) (v238 : BitVec 32) (k0_hw21 : k0_chk21 i v238), ∀ (k0_h11 : k0_cond11 i = 1#1), ∀ a, (k0_off164 v238) a + S1x8192.size a ≤ S512x8192.size a := fun i v238 k0_hw21 k0_h11 => k0_hw21 k0_h11

def k0_off165 (i : grid0.Coords) : Fin 3 → Nat :=
  let arg0 : BitVec 32 := BitVec.ofNat 32 (i 0).val
  let c2_i32 : BitVec 32 := 2#32
  let v0 : BitVec 32 := Scalar.remsi arg0 c2_i32
  let c20_i32_98 : BitVec 32 := 20#32
  let c0_i32_99 : BitVec 32 := 0#32
  ![v0.toNat, 20, 0]
def k0_off166 (i : grid0.Coords) : Fin 1 → Nat :=
  let arg0 : BitVec 32 := BitVec.ofNat 32 (i 0).val
  let c64_i32_100 : BitVec 32 := 64#32
  let v244 : BitVec 32 := Scalar.muli arg0 c64_i32_100
  let c21_i32 : BitVec 32 := 21#32
  let v245 : BitVec 32 := Scalar.addi v244 c21_i32
  let v246 : Index := Scalar.indexCast v245
  ![v246.toNat]
def k0_off167 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off168 (v247 : BitVec 32) : Fin 2 → Nat :=
  let c0_i32_101 : BitVec 32 := 0#32
  ![v247.toNat, 0]

def k0_chk22 (i : grid0.Coords) (v247 : BitVec 32) : Prop :=
  (∀ (k0_h11 : k0_cond11 i = 1#1), ∀ a, (k0_off168 v247) a + S1x8192.size a ≤ S512x8192.size a)
theorem k0_off168_inb : ∀ (i : grid0.Coords) (v247 : BitVec 32) (k0_hw22 : k0_chk22 i v247), ∀ (k0_h11 : k0_cond11 i = 1#1), ∀ a, (k0_off168 v247) a + S1x8192.size a ≤ S512x8192.size a := fun i v247 k0_hw22 k0_h11 => k0_hw22 k0_h11

def k0_off169 (i : grid0.Coords) : Fin 3 → Nat :=
  let arg0 : BitVec 32 := BitVec.ofNat 32 (i 0).val
  let c2_i32 : BitVec 32 := 2#32
  let v0 : BitVec 32 := Scalar.remsi arg0 c2_i32
  let c21_i32_102 : BitVec 32 := 21#32
  let c0_i32_103 : BitVec 32 := 0#32
  ![v0.toNat, 21, 0]
def k0_off170 (i : grid0.Coords) : Fin 1 → Nat :=
  let arg0 : BitVec 32 := BitVec.ofNat 32 (i 0).val
  let c64_i32_104 : BitVec 32 := 64#32
  let v253 : BitVec 32 := Scalar.muli arg0 c64_i32_104
  let c22_i32 : BitVec 32 := 22#32
  let v254 : BitVec 32 := Scalar.addi v253 c22_i32
  let v255 : Index := Scalar.indexCast v254
  ![v255.toNat]
def k0_off171 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off172 (v256 : BitVec 32) : Fin 2 → Nat :=
  let c0_i32_105 : BitVec 32 := 0#32
  ![v256.toNat, 0]

def k0_chk23 (i : grid0.Coords) (v256 : BitVec 32) : Prop :=
  (∀ (k0_h11 : k0_cond11 i = 1#1), ∀ a, (k0_off172 v256) a + S1x8192.size a ≤ S512x8192.size a)
theorem k0_off172_inb : ∀ (i : grid0.Coords) (v256 : BitVec 32) (k0_hw23 : k0_chk23 i v256), ∀ (k0_h11 : k0_cond11 i = 1#1), ∀ a, (k0_off172 v256) a + S1x8192.size a ≤ S512x8192.size a := fun i v256 k0_hw23 k0_h11 => k0_hw23 k0_h11

def k0_off173 (i : grid0.Coords) : Fin 3 → Nat :=
  let arg0 : BitVec 32 := BitVec.ofNat 32 (i 0).val
  let c2_i32 : BitVec 32 := 2#32
  let v0 : BitVec 32 := Scalar.remsi arg0 c2_i32
  let c22_i32_106 : BitVec 32 := 22#32
  let c0_i32_107 : BitVec 32 := 0#32
  ![v0.toNat, 22, 0]
def k0_off174 (i : grid0.Coords) : Fin 1 → Nat :=
  let arg0 : BitVec 32 := BitVec.ofNat 32 (i 0).val
  let c64_i32_108 : BitVec 32 := 64#32
  let v262 : BitVec 32 := Scalar.muli arg0 c64_i32_108
  let c23_i32 : BitVec 32 := 23#32
  let v263 : BitVec 32 := Scalar.addi v262 c23_i32
  let v264 : Index := Scalar.indexCast v263
  ![v264.toNat]
def k0_off175 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off176 (v265 : BitVec 32) : Fin 2 → Nat :=
  let c0_i32_109 : BitVec 32 := 0#32
  ![v265.toNat, 0]

def k0_chk24 (i : grid0.Coords) (v265 : BitVec 32) : Prop :=
  (∀ (k0_h11 : k0_cond11 i = 1#1), ∀ a, (k0_off176 v265) a + S1x8192.size a ≤ S512x8192.size a)
theorem k0_off176_inb : ∀ (i : grid0.Coords) (v265 : BitVec 32) (k0_hw24 : k0_chk24 i v265), ∀ (k0_h11 : k0_cond11 i = 1#1), ∀ a, (k0_off176 v265) a + S1x8192.size a ≤ S512x8192.size a := fun i v265 k0_hw24 k0_h11 => k0_hw24 k0_h11

def k0_off177 (i : grid0.Coords) : Fin 3 → Nat :=
  let arg0 : BitVec 32 := BitVec.ofNat 32 (i 0).val
  let c2_i32 : BitVec 32 := 2#32
  let v0 : BitVec 32 := Scalar.remsi arg0 c2_i32
  let c23_i32_110 : BitVec 32 := 23#32
  let c0_i32_111 : BitVec 32 := 0#32
  ![v0.toNat, 23, 0]
def k0_off178 (i : grid0.Coords) : Fin 1 → Nat :=
  let arg0 : BitVec 32 := BitVec.ofNat 32 (i 0).val
  let c64_i32_112 : BitVec 32 := 64#32
  let v271 : BitVec 32 := Scalar.muli arg0 c64_i32_112
  let c24_i32 : BitVec 32 := 24#32
  let v272 : BitVec 32 := Scalar.addi v271 c24_i32
  let v273 : Index := Scalar.indexCast v272
  ![v273.toNat]
def k0_off179 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off180 (v274 : BitVec 32) : Fin 2 → Nat :=
  let c0_i32_113 : BitVec 32 := 0#32
  ![v274.toNat, 0]

def k0_chk25 (i : grid0.Coords) (v274 : BitVec 32) : Prop :=
  (∀ (k0_h11 : k0_cond11 i = 1#1), ∀ a, (k0_off180 v274) a + S1x8192.size a ≤ S512x8192.size a)
theorem k0_off180_inb : ∀ (i : grid0.Coords) (v274 : BitVec 32) (k0_hw25 : k0_chk25 i v274), ∀ (k0_h11 : k0_cond11 i = 1#1), ∀ a, (k0_off180 v274) a + S1x8192.size a ≤ S512x8192.size a := fun i v274 k0_hw25 k0_h11 => k0_hw25 k0_h11

def k0_off181 (i : grid0.Coords) : Fin 3 → Nat :=
  let arg0 : BitVec 32 := BitVec.ofNat 32 (i 0).val
  let c2_i32 : BitVec 32 := 2#32
  let v0 : BitVec 32 := Scalar.remsi arg0 c2_i32
  let c24_i32_114 : BitVec 32 := 24#32
  let c0_i32_115 : BitVec 32 := 0#32
  ![v0.toNat, 24, 0]
def k0_off182 (i : grid0.Coords) : Fin 1 → Nat :=
  let arg0 : BitVec 32 := BitVec.ofNat 32 (i 0).val
  let c64_i32_116 : BitVec 32 := 64#32
  let v280 : BitVec 32 := Scalar.muli arg0 c64_i32_116
  let c25_i32 : BitVec 32 := 25#32
  let v281 : BitVec 32 := Scalar.addi v280 c25_i32
  let v282 : Index := Scalar.indexCast v281
  ![v282.toNat]
def k0_off183 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off184 (v283 : BitVec 32) : Fin 2 → Nat :=
  let c0_i32_117 : BitVec 32 := 0#32
  ![v283.toNat, 0]

def k0_chk26 (i : grid0.Coords) (v283 : BitVec 32) : Prop :=
  (∀ (k0_h11 : k0_cond11 i = 1#1), ∀ a, (k0_off184 v283) a + S1x8192.size a ≤ S512x8192.size a)
theorem k0_off184_inb : ∀ (i : grid0.Coords) (v283 : BitVec 32) (k0_hw26 : k0_chk26 i v283), ∀ (k0_h11 : k0_cond11 i = 1#1), ∀ a, (k0_off184 v283) a + S1x8192.size a ≤ S512x8192.size a := fun i v283 k0_hw26 k0_h11 => k0_hw26 k0_h11

def k0_off185 (i : grid0.Coords) : Fin 3 → Nat :=
  let arg0 : BitVec 32 := BitVec.ofNat 32 (i 0).val
  let c2_i32 : BitVec 32 := 2#32
  let v0 : BitVec 32 := Scalar.remsi arg0 c2_i32
  let c25_i32_118 : BitVec 32 := 25#32
  let c0_i32_119 : BitVec 32 := 0#32
  ![v0.toNat, 25, 0]
def k0_off186 (i : grid0.Coords) : Fin 1 → Nat :=
  let arg0 : BitVec 32 := BitVec.ofNat 32 (i 0).val
  let c64_i32_120 : BitVec 32 := 64#32
  let v289 : BitVec 32 := Scalar.muli arg0 c64_i32_120
  let c26_i32 : BitVec 32 := 26#32
  let v290 : BitVec 32 := Scalar.addi v289 c26_i32
  let v291 : Index := Scalar.indexCast v290
  ![v291.toNat]
def k0_off187 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off188 (v292 : BitVec 32) : Fin 2 → Nat :=
  let c0_i32_121 : BitVec 32 := 0#32
  ![v292.toNat, 0]

def k0_chk27 (i : grid0.Coords) (v292 : BitVec 32) : Prop :=
  (∀ (k0_h11 : k0_cond11 i = 1#1), ∀ a, (k0_off188 v292) a + S1x8192.size a ≤ S512x8192.size a)
theorem k0_off188_inb : ∀ (i : grid0.Coords) (v292 : BitVec 32) (k0_hw27 : k0_chk27 i v292), ∀ (k0_h11 : k0_cond11 i = 1#1), ∀ a, (k0_off188 v292) a + S1x8192.size a ≤ S512x8192.size a := fun i v292 k0_hw27 k0_h11 => k0_hw27 k0_h11

def k0_off189 (i : grid0.Coords) : Fin 3 → Nat :=
  let arg0 : BitVec 32 := BitVec.ofNat 32 (i 0).val
  let c2_i32 : BitVec 32 := 2#32
  let v0 : BitVec 32 := Scalar.remsi arg0 c2_i32
  let c26_i32_122 : BitVec 32 := 26#32
  let c0_i32_123 : BitVec 32 := 0#32
  ![v0.toNat, 26, 0]
def k0_off190 (i : grid0.Coords) : Fin 1 → Nat :=
  let arg0 : BitVec 32 := BitVec.ofNat 32 (i 0).val
  let c64_i32_124 : BitVec 32 := 64#32
  let v298 : BitVec 32 := Scalar.muli arg0 c64_i32_124
  let c27_i32 : BitVec 32 := 27#32
  let v299 : BitVec 32 := Scalar.addi v298 c27_i32
  let v300 : Index := Scalar.indexCast v299
  ![v300.toNat]
def k0_off191 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off192 (v301 : BitVec 32) : Fin 2 → Nat :=
  let c0_i32_125 : BitVec 32 := 0#32
  ![v301.toNat, 0]

def k0_chk28 (i : grid0.Coords) (v301 : BitVec 32) : Prop :=
  (∀ (k0_h11 : k0_cond11 i = 1#1), ∀ a, (k0_off192 v301) a + S1x8192.size a ≤ S512x8192.size a)
theorem k0_off192_inb : ∀ (i : grid0.Coords) (v301 : BitVec 32) (k0_hw28 : k0_chk28 i v301), ∀ (k0_h11 : k0_cond11 i = 1#1), ∀ a, (k0_off192 v301) a + S1x8192.size a ≤ S512x8192.size a := fun i v301 k0_hw28 k0_h11 => k0_hw28 k0_h11

def k0_off193 (i : grid0.Coords) : Fin 3 → Nat :=
  let arg0 : BitVec 32 := BitVec.ofNat 32 (i 0).val
  let c2_i32 : BitVec 32 := 2#32
  let v0 : BitVec 32 := Scalar.remsi arg0 c2_i32
  let c27_i32_126 : BitVec 32 := 27#32
  let c0_i32_127 : BitVec 32 := 0#32
  ![v0.toNat, 27, 0]
def k0_off194 (i : grid0.Coords) : Fin 1 → Nat :=
  let arg0 : BitVec 32 := BitVec.ofNat 32 (i 0).val
  let c64_i32_128 : BitVec 32 := 64#32
  let v307 : BitVec 32 := Scalar.muli arg0 c64_i32_128
  let c28_i32 : BitVec 32 := 28#32
  let v308 : BitVec 32 := Scalar.addi v307 c28_i32
  let v309 : Index := Scalar.indexCast v308
  ![v309.toNat]
def k0_off195 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off196 (v310 : BitVec 32) : Fin 2 → Nat :=
  let c0_i32_129 : BitVec 32 := 0#32
  ![v310.toNat, 0]

def k0_chk29 (i : grid0.Coords) (v310 : BitVec 32) : Prop :=
  (∀ (k0_h11 : k0_cond11 i = 1#1), ∀ a, (k0_off196 v310) a + S1x8192.size a ≤ S512x8192.size a)
theorem k0_off196_inb : ∀ (i : grid0.Coords) (v310 : BitVec 32) (k0_hw29 : k0_chk29 i v310), ∀ (k0_h11 : k0_cond11 i = 1#1), ∀ a, (k0_off196 v310) a + S1x8192.size a ≤ S512x8192.size a := fun i v310 k0_hw29 k0_h11 => k0_hw29 k0_h11

def k0_off197 (i : grid0.Coords) : Fin 3 → Nat :=
  let arg0 : BitVec 32 := BitVec.ofNat 32 (i 0).val
  let c2_i32 : BitVec 32 := 2#32
  let v0 : BitVec 32 := Scalar.remsi arg0 c2_i32
  let c28_i32_130 : BitVec 32 := 28#32
  let c0_i32_131 : BitVec 32 := 0#32
  ![v0.toNat, 28, 0]
def k0_off198 (i : grid0.Coords) : Fin 1 → Nat :=
  let arg0 : BitVec 32 := BitVec.ofNat 32 (i 0).val
  let c64_i32_132 : BitVec 32 := 64#32
  let v316 : BitVec 32 := Scalar.muli arg0 c64_i32_132
  let c29_i32 : BitVec 32 := 29#32
  let v317 : BitVec 32 := Scalar.addi v316 c29_i32
  let v318 : Index := Scalar.indexCast v317
  ![v318.toNat]
def k0_off199 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off200 (v319 : BitVec 32) : Fin 2 → Nat :=
  let c0_i32_133 : BitVec 32 := 0#32
  ![v319.toNat, 0]

def k0_chk30 (i : grid0.Coords) (v319 : BitVec 32) : Prop :=
  (∀ (k0_h11 : k0_cond11 i = 1#1), ∀ a, (k0_off200 v319) a + S1x8192.size a ≤ S512x8192.size a)
theorem k0_off200_inb : ∀ (i : grid0.Coords) (v319 : BitVec 32) (k0_hw30 : k0_chk30 i v319), ∀ (k0_h11 : k0_cond11 i = 1#1), ∀ a, (k0_off200 v319) a + S1x8192.size a ≤ S512x8192.size a := fun i v319 k0_hw30 k0_h11 => k0_hw30 k0_h11

def k0_off201 (i : grid0.Coords) : Fin 3 → Nat :=
  let arg0 : BitVec 32 := BitVec.ofNat 32 (i 0).val
  let c2_i32 : BitVec 32 := 2#32
  let v0 : BitVec 32 := Scalar.remsi arg0 c2_i32
  let c29_i32_134 : BitVec 32 := 29#32
  let c0_i32_135 : BitVec 32 := 0#32
  ![v0.toNat, 29, 0]
def k0_off202 (i : grid0.Coords) : Fin 1 → Nat :=
  let arg0 : BitVec 32 := BitVec.ofNat 32 (i 0).val
  let c64_i32_136 : BitVec 32 := 64#32
  let v325 : BitVec 32 := Scalar.muli arg0 c64_i32_136
  let c30_i32 : BitVec 32 := 30#32
  let v326 : BitVec 32 := Scalar.addi v325 c30_i32
  let v327 : Index := Scalar.indexCast v326
  ![v327.toNat]
def k0_off203 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off204 (v328 : BitVec 32) : Fin 2 → Nat :=
  let c0_i32_137 : BitVec 32 := 0#32
  ![v328.toNat, 0]

def k0_chk31 (i : grid0.Coords) (v328 : BitVec 32) : Prop :=
  (∀ (k0_h11 : k0_cond11 i = 1#1), ∀ a, (k0_off204 v328) a + S1x8192.size a ≤ S512x8192.size a)
theorem k0_off204_inb : ∀ (i : grid0.Coords) (v328 : BitVec 32) (k0_hw31 : k0_chk31 i v328), ∀ (k0_h11 : k0_cond11 i = 1#1), ∀ a, (k0_off204 v328) a + S1x8192.size a ≤ S512x8192.size a := fun i v328 k0_hw31 k0_h11 => k0_hw31 k0_h11

def k0_off205 (i : grid0.Coords) : Fin 3 → Nat :=
  let arg0 : BitVec 32 := BitVec.ofNat 32 (i 0).val
  let c2_i32 : BitVec 32 := 2#32
  let v0 : BitVec 32 := Scalar.remsi arg0 c2_i32
  let c30_i32_138 : BitVec 32 := 30#32
  let c0_i32_139 : BitVec 32 := 0#32
  ![v0.toNat, 30, 0]
def k0_off206 (i : grid0.Coords) : Fin 1 → Nat :=
  let arg0 : BitVec 32 := BitVec.ofNat 32 (i 0).val
  let c64_i32_140 : BitVec 32 := 64#32
  let v334 : BitVec 32 := Scalar.muli arg0 c64_i32_140
  let c31_i32 : BitVec 32 := 31#32
  let v335 : BitVec 32 := Scalar.addi v334 c31_i32
  let v336 : Index := Scalar.indexCast v335
  ![v336.toNat]
def k0_off207 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off208 (v337 : BitVec 32) : Fin 2 → Nat :=
  let c0_i32_141 : BitVec 32 := 0#32
  ![v337.toNat, 0]

def k0_chk32 (i : grid0.Coords) (v337 : BitVec 32) : Prop :=
  (∀ (k0_h11 : k0_cond11 i = 1#1), ∀ a, (k0_off208 v337) a + S1x8192.size a ≤ S512x8192.size a)
theorem k0_off208_inb : ∀ (i : grid0.Coords) (v337 : BitVec 32) (k0_hw32 : k0_chk32 i v337), ∀ (k0_h11 : k0_cond11 i = 1#1), ∀ a, (k0_off208 v337) a + S1x8192.size a ≤ S512x8192.size a := fun i v337 k0_hw32 k0_h11 => k0_hw32 k0_h11

def k0_off209 (i : grid0.Coords) : Fin 3 → Nat :=
  let arg0 : BitVec 32 := BitVec.ofNat 32 (i 0).val
  let c2_i32 : BitVec 32 := 2#32
  let v0 : BitVec 32 := Scalar.remsi arg0 c2_i32
  let c31_i32_142 : BitVec 32 := 31#32
  let c0_i32_143 : BitVec 32 := 0#32
  ![v0.toNat, 31, 0]
def k0_off210 (i : grid0.Coords) : Fin 1 → Nat :=
  let arg0 : BitVec 32 := BitVec.ofNat 32 (i 0).val
  let c64_i32_144 : BitVec 32 := 64#32
  let v343 : BitVec 32 := Scalar.muli arg0 c64_i32_144
  let c32_i32 : BitVec 32 := 32#32
  let v344 : BitVec 32 := Scalar.addi v343 c32_i32
  let v345 : Index := Scalar.indexCast v344
  ![v345.toNat]
def k0_off211 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off212 (v346 : BitVec 32) : Fin 2 → Nat :=
  let c0_i32_145 : BitVec 32 := 0#32
  ![v346.toNat, 0]

def k0_chk33 (i : grid0.Coords) (v346 : BitVec 32) : Prop :=
  (∀ (k0_h11 : k0_cond11 i = 1#1), ∀ a, (k0_off212 v346) a + S1x8192.size a ≤ S512x8192.size a)
theorem k0_off212_inb : ∀ (i : grid0.Coords) (v346 : BitVec 32) (k0_hw33 : k0_chk33 i v346), ∀ (k0_h11 : k0_cond11 i = 1#1), ∀ a, (k0_off212 v346) a + S1x8192.size a ≤ S512x8192.size a := fun i v346 k0_hw33 k0_h11 => k0_hw33 k0_h11

def k0_off213 (i : grid0.Coords) : Fin 3 → Nat :=
  let arg0 : BitVec 32 := BitVec.ofNat 32 (i 0).val
  let c2_i32 : BitVec 32 := 2#32
  let v0 : BitVec 32 := Scalar.remsi arg0 c2_i32
  let c32_i32_146 : BitVec 32 := 32#32
  let c0_i32_147 : BitVec 32 := 0#32
  ![v0.toNat, 32, 0]
def k0_off214 (i : grid0.Coords) : Fin 1 → Nat :=
  let arg0 : BitVec 32 := BitVec.ofNat 32 (i 0).val
  let c64_i32_148 : BitVec 32 := 64#32
  let v352 : BitVec 32 := Scalar.muli arg0 c64_i32_148
  let c33_i32 : BitVec 32 := 33#32
  let v353 : BitVec 32 := Scalar.addi v352 c33_i32
  let v354 : Index := Scalar.indexCast v353
  ![v354.toNat]
def k0_off215 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off216 (v355 : BitVec 32) : Fin 2 → Nat :=
  let c0_i32_149 : BitVec 32 := 0#32
  ![v355.toNat, 0]

def k0_chk34 (i : grid0.Coords) (v355 : BitVec 32) : Prop :=
  (∀ (k0_h11 : k0_cond11 i = 1#1), ∀ a, (k0_off216 v355) a + S1x8192.size a ≤ S512x8192.size a)
theorem k0_off216_inb : ∀ (i : grid0.Coords) (v355 : BitVec 32) (k0_hw34 : k0_chk34 i v355), ∀ (k0_h11 : k0_cond11 i = 1#1), ∀ a, (k0_off216 v355) a + S1x8192.size a ≤ S512x8192.size a := fun i v355 k0_hw34 k0_h11 => k0_hw34 k0_h11

def k0_off217 (i : grid0.Coords) : Fin 3 → Nat :=
  let arg0 : BitVec 32 := BitVec.ofNat 32 (i 0).val
  let c2_i32 : BitVec 32 := 2#32
  let v0 : BitVec 32 := Scalar.remsi arg0 c2_i32
  let c33_i32_150 : BitVec 32 := 33#32
  let c0_i32_151 : BitVec 32 := 0#32
  ![v0.toNat, 33, 0]
def k0_off218 (i : grid0.Coords) : Fin 1 → Nat :=
  let arg0 : BitVec 32 := BitVec.ofNat 32 (i 0).val
  let c64_i32_152 : BitVec 32 := 64#32
  let v361 : BitVec 32 := Scalar.muli arg0 c64_i32_152
  let c34_i32 : BitVec 32 := 34#32
  let v362 : BitVec 32 := Scalar.addi v361 c34_i32
  let v363 : Index := Scalar.indexCast v362
  ![v363.toNat]
def k0_off219 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off220 (v364 : BitVec 32) : Fin 2 → Nat :=
  let c0_i32_153 : BitVec 32 := 0#32
  ![v364.toNat, 0]

def k0_chk35 (i : grid0.Coords) (v364 : BitVec 32) : Prop :=
  (∀ (k0_h11 : k0_cond11 i = 1#1), ∀ a, (k0_off220 v364) a + S1x8192.size a ≤ S512x8192.size a)
theorem k0_off220_inb : ∀ (i : grid0.Coords) (v364 : BitVec 32) (k0_hw35 : k0_chk35 i v364), ∀ (k0_h11 : k0_cond11 i = 1#1), ∀ a, (k0_off220 v364) a + S1x8192.size a ≤ S512x8192.size a := fun i v364 k0_hw35 k0_h11 => k0_hw35 k0_h11

def k0_off221 (i : grid0.Coords) : Fin 3 → Nat :=
  let arg0 : BitVec 32 := BitVec.ofNat 32 (i 0).val
  let c2_i32 : BitVec 32 := 2#32
  let v0 : BitVec 32 := Scalar.remsi arg0 c2_i32
  let c34_i32_154 : BitVec 32 := 34#32
  let c0_i32_155 : BitVec 32 := 0#32
  ![v0.toNat, 34, 0]
def k0_off222 (i : grid0.Coords) : Fin 1 → Nat :=
  let arg0 : BitVec 32 := BitVec.ofNat 32 (i 0).val
  let c64_i32_156 : BitVec 32 := 64#32
  let v370 : BitVec 32 := Scalar.muli arg0 c64_i32_156
  let c35_i32 : BitVec 32 := 35#32
  let v371 : BitVec 32 := Scalar.addi v370 c35_i32
  let v372 : Index := Scalar.indexCast v371
  ![v372.toNat]
def k0_off223 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off224 (v373 : BitVec 32) : Fin 2 → Nat :=
  let c0_i32_157 : BitVec 32 := 0#32
  ![v373.toNat, 0]

def k0_chk36 (i : grid0.Coords) (v373 : BitVec 32) : Prop :=
  (∀ (k0_h11 : k0_cond11 i = 1#1), ∀ a, (k0_off224 v373) a + S1x8192.size a ≤ S512x8192.size a)
theorem k0_off224_inb : ∀ (i : grid0.Coords) (v373 : BitVec 32) (k0_hw36 : k0_chk36 i v373), ∀ (k0_h11 : k0_cond11 i = 1#1), ∀ a, (k0_off224 v373) a + S1x8192.size a ≤ S512x8192.size a := fun i v373 k0_hw36 k0_h11 => k0_hw36 k0_h11

def k0_off225 (i : grid0.Coords) : Fin 3 → Nat :=
  let arg0 : BitVec 32 := BitVec.ofNat 32 (i 0).val
  let c2_i32 : BitVec 32 := 2#32
  let v0 : BitVec 32 := Scalar.remsi arg0 c2_i32
  let c35_i32_158 : BitVec 32 := 35#32
  let c0_i32_159 : BitVec 32 := 0#32
  ![v0.toNat, 35, 0]
def k0_off226 (i : grid0.Coords) : Fin 1 → Nat :=
  let arg0 : BitVec 32 := BitVec.ofNat 32 (i 0).val
  let c64_i32_160 : BitVec 32 := 64#32
  let v379 : BitVec 32 := Scalar.muli arg0 c64_i32_160
  let c36_i32 : BitVec 32 := 36#32
  let v380 : BitVec 32 := Scalar.addi v379 c36_i32
  let v381 : Index := Scalar.indexCast v380
  ![v381.toNat]
def k0_off227 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off228 (v382 : BitVec 32) : Fin 2 → Nat :=
  let c0_i32_161 : BitVec 32 := 0#32
  ![v382.toNat, 0]

def k0_chk37 (i : grid0.Coords) (v382 : BitVec 32) : Prop :=
  (∀ (k0_h11 : k0_cond11 i = 1#1), ∀ a, (k0_off228 v382) a + S1x8192.size a ≤ S512x8192.size a)
theorem k0_off228_inb : ∀ (i : grid0.Coords) (v382 : BitVec 32) (k0_hw37 : k0_chk37 i v382), ∀ (k0_h11 : k0_cond11 i = 1#1), ∀ a, (k0_off228 v382) a + S1x8192.size a ≤ S512x8192.size a := fun i v382 k0_hw37 k0_h11 => k0_hw37 k0_h11

def k0_off229 (i : grid0.Coords) : Fin 3 → Nat :=
  let arg0 : BitVec 32 := BitVec.ofNat 32 (i 0).val
  let c2_i32 : BitVec 32 := 2#32
  let v0 : BitVec 32 := Scalar.remsi arg0 c2_i32
  let c36_i32_162 : BitVec 32 := 36#32
  let c0_i32_163 : BitVec 32 := 0#32
  ![v0.toNat, 36, 0]
def k0_off230 (i : grid0.Coords) : Fin 1 → Nat :=
  let arg0 : BitVec 32 := BitVec.ofNat 32 (i 0).val
  let c64_i32_164 : BitVec 32 := 64#32
  let v388 : BitVec 32 := Scalar.muli arg0 c64_i32_164
  let c37_i32 : BitVec 32 := 37#32
  let v389 : BitVec 32 := Scalar.addi v388 c37_i32
  let v390 : Index := Scalar.indexCast v389
  ![v390.toNat]
def k0_off231 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off232 (v391 : BitVec 32) : Fin 2 → Nat :=
  let c0_i32_165 : BitVec 32 := 0#32
  ![v391.toNat, 0]

def k0_chk38 (i : grid0.Coords) (v391 : BitVec 32) : Prop :=
  (∀ (k0_h11 : k0_cond11 i = 1#1), ∀ a, (k0_off232 v391) a + S1x8192.size a ≤ S512x8192.size a)
theorem k0_off232_inb : ∀ (i : grid0.Coords) (v391 : BitVec 32) (k0_hw38 : k0_chk38 i v391), ∀ (k0_h11 : k0_cond11 i = 1#1), ∀ a, (k0_off232 v391) a + S1x8192.size a ≤ S512x8192.size a := fun i v391 k0_hw38 k0_h11 => k0_hw38 k0_h11

def k0_off233 (i : grid0.Coords) : Fin 3 → Nat :=
  let arg0 : BitVec 32 := BitVec.ofNat 32 (i 0).val
  let c2_i32 : BitVec 32 := 2#32
  let v0 : BitVec 32 := Scalar.remsi arg0 c2_i32
  let c37_i32_166 : BitVec 32 := 37#32
  let c0_i32_167 : BitVec 32 := 0#32
  ![v0.toNat, 37, 0]
def k0_off234 (i : grid0.Coords) : Fin 1 → Nat :=
  let arg0 : BitVec 32 := BitVec.ofNat 32 (i 0).val
  let c64_i32_168 : BitVec 32 := 64#32
  let v397 : BitVec 32 := Scalar.muli arg0 c64_i32_168
  let c38_i32 : BitVec 32 := 38#32
  let v398 : BitVec 32 := Scalar.addi v397 c38_i32
  let v399 : Index := Scalar.indexCast v398
  ![v399.toNat]
def k0_off235 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off236 (v400 : BitVec 32) : Fin 2 → Nat :=
  let c0_i32_169 : BitVec 32 := 0#32
  ![v400.toNat, 0]

def k0_chk39 (i : grid0.Coords) (v400 : BitVec 32) : Prop :=
  (∀ (k0_h11 : k0_cond11 i = 1#1), ∀ a, (k0_off236 v400) a + S1x8192.size a ≤ S512x8192.size a)
theorem k0_off236_inb : ∀ (i : grid0.Coords) (v400 : BitVec 32) (k0_hw39 : k0_chk39 i v400), ∀ (k0_h11 : k0_cond11 i = 1#1), ∀ a, (k0_off236 v400) a + S1x8192.size a ≤ S512x8192.size a := fun i v400 k0_hw39 k0_h11 => k0_hw39 k0_h11

def k0_off237 (i : grid0.Coords) : Fin 3 → Nat :=
  let arg0 : BitVec 32 := BitVec.ofNat 32 (i 0).val
  let c2_i32 : BitVec 32 := 2#32
  let v0 : BitVec 32 := Scalar.remsi arg0 c2_i32
  let c38_i32_170 : BitVec 32 := 38#32
  let c0_i32_171 : BitVec 32 := 0#32
  ![v0.toNat, 38, 0]
def k0_off238 (i : grid0.Coords) : Fin 1 → Nat :=
  let arg0 : BitVec 32 := BitVec.ofNat 32 (i 0).val
  let c64_i32_172 : BitVec 32 := 64#32
  let v406 : BitVec 32 := Scalar.muli arg0 c64_i32_172
  let c39_i32 : BitVec 32 := 39#32
  let v407 : BitVec 32 := Scalar.addi v406 c39_i32
  let v408 : Index := Scalar.indexCast v407
  ![v408.toNat]
def k0_off239 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off240 (v409 : BitVec 32) : Fin 2 → Nat :=
  let c0_i32_173 : BitVec 32 := 0#32
  ![v409.toNat, 0]

def k0_chk40 (i : grid0.Coords) (v409 : BitVec 32) : Prop :=
  (∀ (k0_h11 : k0_cond11 i = 1#1), ∀ a, (k0_off240 v409) a + S1x8192.size a ≤ S512x8192.size a)
theorem k0_off240_inb : ∀ (i : grid0.Coords) (v409 : BitVec 32) (k0_hw40 : k0_chk40 i v409), ∀ (k0_h11 : k0_cond11 i = 1#1), ∀ a, (k0_off240 v409) a + S1x8192.size a ≤ S512x8192.size a := fun i v409 k0_hw40 k0_h11 => k0_hw40 k0_h11

def k0_off241 (i : grid0.Coords) : Fin 3 → Nat :=
  let arg0 : BitVec 32 := BitVec.ofNat 32 (i 0).val
  let c2_i32 : BitVec 32 := 2#32
  let v0 : BitVec 32 := Scalar.remsi arg0 c2_i32
  let c39_i32_174 : BitVec 32 := 39#32
  let c0_i32_175 : BitVec 32 := 0#32
  ![v0.toNat, 39, 0]
def k0_off242 (i : grid0.Coords) : Fin 1 → Nat :=
  let arg0 : BitVec 32 := BitVec.ofNat 32 (i 0).val
  let c64_i32_176 : BitVec 32 := 64#32
  let v415 : BitVec 32 := Scalar.muli arg0 c64_i32_176
  let c40_i32 : BitVec 32 := 40#32
  let v416 : BitVec 32 := Scalar.addi v415 c40_i32
  let v417 : Index := Scalar.indexCast v416
  ![v417.toNat]
def k0_off243 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off244 (v418 : BitVec 32) : Fin 2 → Nat :=
  let c0_i32_177 : BitVec 32 := 0#32
  ![v418.toNat, 0]

def k0_chk41 (i : grid0.Coords) (v418 : BitVec 32) : Prop :=
  (∀ (k0_h11 : k0_cond11 i = 1#1), ∀ a, (k0_off244 v418) a + S1x8192.size a ≤ S512x8192.size a)
theorem k0_off244_inb : ∀ (i : grid0.Coords) (v418 : BitVec 32) (k0_hw41 : k0_chk41 i v418), ∀ (k0_h11 : k0_cond11 i = 1#1), ∀ a, (k0_off244 v418) a + S1x8192.size a ≤ S512x8192.size a := fun i v418 k0_hw41 k0_h11 => k0_hw41 k0_h11

def k0_off245 (i : grid0.Coords) : Fin 3 → Nat :=
  let arg0 : BitVec 32 := BitVec.ofNat 32 (i 0).val
  let c2_i32 : BitVec 32 := 2#32
  let v0 : BitVec 32 := Scalar.remsi arg0 c2_i32
  let c40_i32_178 : BitVec 32 := 40#32
  let c0_i32_179 : BitVec 32 := 0#32
  ![v0.toNat, 40, 0]
def k0_off246 (i : grid0.Coords) : Fin 1 → Nat :=
  let arg0 : BitVec 32 := BitVec.ofNat 32 (i 0).val
  let c64_i32_180 : BitVec 32 := 64#32
  let v424 : BitVec 32 := Scalar.muli arg0 c64_i32_180
  let c41_i32 : BitVec 32 := 41#32
  let v425 : BitVec 32 := Scalar.addi v424 c41_i32
  let v426 : Index := Scalar.indexCast v425
  ![v426.toNat]
def k0_off247 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off248 (v427 : BitVec 32) : Fin 2 → Nat :=
  let c0_i32_181 : BitVec 32 := 0#32
  ![v427.toNat, 0]

def k0_chk42 (i : grid0.Coords) (v427 : BitVec 32) : Prop :=
  (∀ (k0_h11 : k0_cond11 i = 1#1), ∀ a, (k0_off248 v427) a + S1x8192.size a ≤ S512x8192.size a)
theorem k0_off248_inb : ∀ (i : grid0.Coords) (v427 : BitVec 32) (k0_hw42 : k0_chk42 i v427), ∀ (k0_h11 : k0_cond11 i = 1#1), ∀ a, (k0_off248 v427) a + S1x8192.size a ≤ S512x8192.size a := fun i v427 k0_hw42 k0_h11 => k0_hw42 k0_h11

def k0_off249 (i : grid0.Coords) : Fin 3 → Nat :=
  let arg0 : BitVec 32 := BitVec.ofNat 32 (i 0).val
  let c2_i32 : BitVec 32 := 2#32
  let v0 : BitVec 32 := Scalar.remsi arg0 c2_i32
  let c41_i32_182 : BitVec 32 := 41#32
  let c0_i32_183 : BitVec 32 := 0#32
  ![v0.toNat, 41, 0]
def k0_off250 (i : grid0.Coords) : Fin 1 → Nat :=
  let arg0 : BitVec 32 := BitVec.ofNat 32 (i 0).val
  let c64_i32_184 : BitVec 32 := 64#32
  let v433 : BitVec 32 := Scalar.muli arg0 c64_i32_184
  let c42_i32 : BitVec 32 := 42#32
  let v434 : BitVec 32 := Scalar.addi v433 c42_i32
  let v435 : Index := Scalar.indexCast v434
  ![v435.toNat]
def k0_off251 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off252 (v436 : BitVec 32) : Fin 2 → Nat :=
  let c0_i32_185 : BitVec 32 := 0#32
  ![v436.toNat, 0]

def k0_chk43 (i : grid0.Coords) (v436 : BitVec 32) : Prop :=
  (∀ (k0_h11 : k0_cond11 i = 1#1), ∀ a, (k0_off252 v436) a + S1x8192.size a ≤ S512x8192.size a)
theorem k0_off252_inb : ∀ (i : grid0.Coords) (v436 : BitVec 32) (k0_hw43 : k0_chk43 i v436), ∀ (k0_h11 : k0_cond11 i = 1#1), ∀ a, (k0_off252 v436) a + S1x8192.size a ≤ S512x8192.size a := fun i v436 k0_hw43 k0_h11 => k0_hw43 k0_h11

def k0_off253 (i : grid0.Coords) : Fin 3 → Nat :=
  let arg0 : BitVec 32 := BitVec.ofNat 32 (i 0).val
  let c2_i32 : BitVec 32 := 2#32
  let v0 : BitVec 32 := Scalar.remsi arg0 c2_i32
  let c42_i32_186 : BitVec 32 := 42#32
  let c0_i32_187 : BitVec 32 := 0#32
  ![v0.toNat, 42, 0]
def k0_off254 (i : grid0.Coords) : Fin 1 → Nat :=
  let arg0 : BitVec 32 := BitVec.ofNat 32 (i 0).val
  let c64_i32_188 : BitVec 32 := 64#32
  let v442 : BitVec 32 := Scalar.muli arg0 c64_i32_188
  let c43_i32 : BitVec 32 := 43#32
  let v443 : BitVec 32 := Scalar.addi v442 c43_i32
  let v444 : Index := Scalar.indexCast v443
  ![v444.toNat]
def k0_off255 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off256 (v445 : BitVec 32) : Fin 2 → Nat :=
  let c0_i32_189 : BitVec 32 := 0#32
  ![v445.toNat, 0]

def k0_chk44 (i : grid0.Coords) (v445 : BitVec 32) : Prop :=
  (∀ (k0_h11 : k0_cond11 i = 1#1), ∀ a, (k0_off256 v445) a + S1x8192.size a ≤ S512x8192.size a)
theorem k0_off256_inb : ∀ (i : grid0.Coords) (v445 : BitVec 32) (k0_hw44 : k0_chk44 i v445), ∀ (k0_h11 : k0_cond11 i = 1#1), ∀ a, (k0_off256 v445) a + S1x8192.size a ≤ S512x8192.size a := fun i v445 k0_hw44 k0_h11 => k0_hw44 k0_h11

def k0_off257 (i : grid0.Coords) : Fin 3 → Nat :=
  let arg0 : BitVec 32 := BitVec.ofNat 32 (i 0).val
  let c2_i32 : BitVec 32 := 2#32
  let v0 : BitVec 32 := Scalar.remsi arg0 c2_i32
  let c43_i32_190 : BitVec 32 := 43#32
  let c0_i32_191 : BitVec 32 := 0#32
  ![v0.toNat, 43, 0]
def k0_off258 (i : grid0.Coords) : Fin 1 → Nat :=
  let arg0 : BitVec 32 := BitVec.ofNat 32 (i 0).val
  let c64_i32_192 : BitVec 32 := 64#32
  let v451 : BitVec 32 := Scalar.muli arg0 c64_i32_192
  let c44_i32 : BitVec 32 := 44#32
  let v452 : BitVec 32 := Scalar.addi v451 c44_i32
  let v453 : Index := Scalar.indexCast v452
  ![v453.toNat]
def k0_off259 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off260 (v454 : BitVec 32) : Fin 2 → Nat :=
  let c0_i32_193 : BitVec 32 := 0#32
  ![v454.toNat, 0]

def k0_chk45 (i : grid0.Coords) (v454 : BitVec 32) : Prop :=
  (∀ (k0_h11 : k0_cond11 i = 1#1), ∀ a, (k0_off260 v454) a + S1x8192.size a ≤ S512x8192.size a)
theorem k0_off260_inb : ∀ (i : grid0.Coords) (v454 : BitVec 32) (k0_hw45 : k0_chk45 i v454), ∀ (k0_h11 : k0_cond11 i = 1#1), ∀ a, (k0_off260 v454) a + S1x8192.size a ≤ S512x8192.size a := fun i v454 k0_hw45 k0_h11 => k0_hw45 k0_h11

def k0_off261 (i : grid0.Coords) : Fin 3 → Nat :=
  let arg0 : BitVec 32 := BitVec.ofNat 32 (i 0).val
  let c2_i32 : BitVec 32 := 2#32
  let v0 : BitVec 32 := Scalar.remsi arg0 c2_i32
  let c44_i32_194 : BitVec 32 := 44#32
  let c0_i32_195 : BitVec 32 := 0#32
  ![v0.toNat, 44, 0]
def k0_off262 (i : grid0.Coords) : Fin 1 → Nat :=
  let arg0 : BitVec 32 := BitVec.ofNat 32 (i 0).val
  let c64_i32_196 : BitVec 32 := 64#32
  let v460 : BitVec 32 := Scalar.muli arg0 c64_i32_196
  let c45_i32 : BitVec 32 := 45#32
  let v461 : BitVec 32 := Scalar.addi v460 c45_i32
  let v462 : Index := Scalar.indexCast v461
  ![v462.toNat]
def k0_off263 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off264 (v463 : BitVec 32) : Fin 2 → Nat :=
  let c0_i32_197 : BitVec 32 := 0#32
  ![v463.toNat, 0]

def k0_chk46 (i : grid0.Coords) (v463 : BitVec 32) : Prop :=
  (∀ (k0_h11 : k0_cond11 i = 1#1), ∀ a, (k0_off264 v463) a + S1x8192.size a ≤ S512x8192.size a)
theorem k0_off264_inb : ∀ (i : grid0.Coords) (v463 : BitVec 32) (k0_hw46 : k0_chk46 i v463), ∀ (k0_h11 : k0_cond11 i = 1#1), ∀ a, (k0_off264 v463) a + S1x8192.size a ≤ S512x8192.size a := fun i v463 k0_hw46 k0_h11 => k0_hw46 k0_h11

def k0_off265 (i : grid0.Coords) : Fin 3 → Nat :=
  let arg0 : BitVec 32 := BitVec.ofNat 32 (i 0).val
  let c2_i32 : BitVec 32 := 2#32
  let v0 : BitVec 32 := Scalar.remsi arg0 c2_i32
  let c45_i32_198 : BitVec 32 := 45#32
  let c0_i32_199 : BitVec 32 := 0#32
  ![v0.toNat, 45, 0]
def k0_off266 (i : grid0.Coords) : Fin 1 → Nat :=
  let arg0 : BitVec 32 := BitVec.ofNat 32 (i 0).val
  let c64_i32_200 : BitVec 32 := 64#32
  let v469 : BitVec 32 := Scalar.muli arg0 c64_i32_200
  let c46_i32 : BitVec 32 := 46#32
  let v470 : BitVec 32 := Scalar.addi v469 c46_i32
  let v471 : Index := Scalar.indexCast v470
  ![v471.toNat]
def k0_off267 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off268 (v472 : BitVec 32) : Fin 2 → Nat :=
  let c0_i32_201 : BitVec 32 := 0#32
  ![v472.toNat, 0]

def k0_chk47 (i : grid0.Coords) (v472 : BitVec 32) : Prop :=
  (∀ (k0_h11 : k0_cond11 i = 1#1), ∀ a, (k0_off268 v472) a + S1x8192.size a ≤ S512x8192.size a)
theorem k0_off268_inb : ∀ (i : grid0.Coords) (v472 : BitVec 32) (k0_hw47 : k0_chk47 i v472), ∀ (k0_h11 : k0_cond11 i = 1#1), ∀ a, (k0_off268 v472) a + S1x8192.size a ≤ S512x8192.size a := fun i v472 k0_hw47 k0_h11 => k0_hw47 k0_h11

def k0_off269 (i : grid0.Coords) : Fin 3 → Nat :=
  let arg0 : BitVec 32 := BitVec.ofNat 32 (i 0).val
  let c2_i32 : BitVec 32 := 2#32
  let v0 : BitVec 32 := Scalar.remsi arg0 c2_i32
  let c46_i32_202 : BitVec 32 := 46#32
  let c0_i32_203 : BitVec 32 := 0#32
  ![v0.toNat, 46, 0]
def k0_off270 (i : grid0.Coords) : Fin 1 → Nat :=
  let arg0 : BitVec 32 := BitVec.ofNat 32 (i 0).val
  let c64_i32_204 : BitVec 32 := 64#32
  let v478 : BitVec 32 := Scalar.muli arg0 c64_i32_204
  let c47_i32 : BitVec 32 := 47#32
  let v479 : BitVec 32 := Scalar.addi v478 c47_i32
  let v480 : Index := Scalar.indexCast v479
  ![v480.toNat]
def k0_off271 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off272 (v481 : BitVec 32) : Fin 2 → Nat :=
  let c0_i32_205 : BitVec 32 := 0#32
  ![v481.toNat, 0]

def k0_chk48 (i : grid0.Coords) (v481 : BitVec 32) : Prop :=
  (∀ (k0_h11 : k0_cond11 i = 1#1), ∀ a, (k0_off272 v481) a + S1x8192.size a ≤ S512x8192.size a)
theorem k0_off272_inb : ∀ (i : grid0.Coords) (v481 : BitVec 32) (k0_hw48 : k0_chk48 i v481), ∀ (k0_h11 : k0_cond11 i = 1#1), ∀ a, (k0_off272 v481) a + S1x8192.size a ≤ S512x8192.size a := fun i v481 k0_hw48 k0_h11 => k0_hw48 k0_h11

def k0_off273 (i : grid0.Coords) : Fin 3 → Nat :=
  let arg0 : BitVec 32 := BitVec.ofNat 32 (i 0).val
  let c2_i32 : BitVec 32 := 2#32
  let v0 : BitVec 32 := Scalar.remsi arg0 c2_i32
  let c47_i32_206 : BitVec 32 := 47#32
  let c0_i32_207 : BitVec 32 := 0#32
  ![v0.toNat, 47, 0]
def k0_off274 (i : grid0.Coords) : Fin 1 → Nat :=
  let arg0 : BitVec 32 := BitVec.ofNat 32 (i 0).val
  let c64_i32_208 : BitVec 32 := 64#32
  let v487 : BitVec 32 := Scalar.muli arg0 c64_i32_208
  let c48_i32 : BitVec 32 := 48#32
  let v488 : BitVec 32 := Scalar.addi v487 c48_i32
  let v489 : Index := Scalar.indexCast v488
  ![v489.toNat]
def k0_off275 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off276 (v490 : BitVec 32) : Fin 2 → Nat :=
  let c0_i32_209 : BitVec 32 := 0#32
  ![v490.toNat, 0]

def k0_chk49 (i : grid0.Coords) (v490 : BitVec 32) : Prop :=
  (∀ (k0_h11 : k0_cond11 i = 1#1), ∀ a, (k0_off276 v490) a + S1x8192.size a ≤ S512x8192.size a)
theorem k0_off276_inb : ∀ (i : grid0.Coords) (v490 : BitVec 32) (k0_hw49 : k0_chk49 i v490), ∀ (k0_h11 : k0_cond11 i = 1#1), ∀ a, (k0_off276 v490) a + S1x8192.size a ≤ S512x8192.size a := fun i v490 k0_hw49 k0_h11 => k0_hw49 k0_h11

def k0_off277 (i : grid0.Coords) : Fin 3 → Nat :=
  let arg0 : BitVec 32 := BitVec.ofNat 32 (i 0).val
  let c2_i32 : BitVec 32 := 2#32
  let v0 : BitVec 32 := Scalar.remsi arg0 c2_i32
  let c48_i32_210 : BitVec 32 := 48#32
  let c0_i32_211 : BitVec 32 := 0#32
  ![v0.toNat, 48, 0]
def k0_off278 (i : grid0.Coords) : Fin 1 → Nat :=
  let arg0 : BitVec 32 := BitVec.ofNat 32 (i 0).val
  let c64_i32_212 : BitVec 32 := 64#32
  let v496 : BitVec 32 := Scalar.muli arg0 c64_i32_212
  let c49_i32 : BitVec 32 := 49#32
  let v497 : BitVec 32 := Scalar.addi v496 c49_i32
  let v498 : Index := Scalar.indexCast v497
  ![v498.toNat]
def k0_off279 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off280 (v499 : BitVec 32) : Fin 2 → Nat :=
  let c0_i32_213 : BitVec 32 := 0#32
  ![v499.toNat, 0]

def k0_chk50 (i : grid0.Coords) (v499 : BitVec 32) : Prop :=
  (∀ (k0_h11 : k0_cond11 i = 1#1), ∀ a, (k0_off280 v499) a + S1x8192.size a ≤ S512x8192.size a)
theorem k0_off280_inb : ∀ (i : grid0.Coords) (v499 : BitVec 32) (k0_hw50 : k0_chk50 i v499), ∀ (k0_h11 : k0_cond11 i = 1#1), ∀ a, (k0_off280 v499) a + S1x8192.size a ≤ S512x8192.size a := fun i v499 k0_hw50 k0_h11 => k0_hw50 k0_h11

def k0_off281 (i : grid0.Coords) : Fin 3 → Nat :=
  let arg0 : BitVec 32 := BitVec.ofNat 32 (i 0).val
  let c2_i32 : BitVec 32 := 2#32
  let v0 : BitVec 32 := Scalar.remsi arg0 c2_i32
  let c49_i32_214 : BitVec 32 := 49#32
  let c0_i32_215 : BitVec 32 := 0#32
  ![v0.toNat, 49, 0]
def k0_off282 (i : grid0.Coords) : Fin 1 → Nat :=
  let arg0 : BitVec 32 := BitVec.ofNat 32 (i 0).val
  let c64_i32_216 : BitVec 32 := 64#32
  let v505 : BitVec 32 := Scalar.muli arg0 c64_i32_216
  let c50_i32 : BitVec 32 := 50#32
  let v506 : BitVec 32 := Scalar.addi v505 c50_i32
  let v507 : Index := Scalar.indexCast v506
  ![v507.toNat]
def k0_off283 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off284 (v508 : BitVec 32) : Fin 2 → Nat :=
  let c0_i32_217 : BitVec 32 := 0#32
  ![v508.toNat, 0]

def k0_chk51 (i : grid0.Coords) (v508 : BitVec 32) : Prop :=
  (∀ (k0_h11 : k0_cond11 i = 1#1), ∀ a, (k0_off284 v508) a + S1x8192.size a ≤ S512x8192.size a)
theorem k0_off284_inb : ∀ (i : grid0.Coords) (v508 : BitVec 32) (k0_hw51 : k0_chk51 i v508), ∀ (k0_h11 : k0_cond11 i = 1#1), ∀ a, (k0_off284 v508) a + S1x8192.size a ≤ S512x8192.size a := fun i v508 k0_hw51 k0_h11 => k0_hw51 k0_h11

def k0_off285 (i : grid0.Coords) : Fin 3 → Nat :=
  let arg0 : BitVec 32 := BitVec.ofNat 32 (i 0).val
  let c2_i32 : BitVec 32 := 2#32
  let v0 : BitVec 32 := Scalar.remsi arg0 c2_i32
  let c50_i32_218 : BitVec 32 := 50#32
  let c0_i32_219 : BitVec 32 := 0#32
  ![v0.toNat, 50, 0]
def k0_off286 (i : grid0.Coords) : Fin 1 → Nat :=
  let arg0 : BitVec 32 := BitVec.ofNat 32 (i 0).val
  let c64_i32_220 : BitVec 32 := 64#32
  let v514 : BitVec 32 := Scalar.muli arg0 c64_i32_220
  let c51_i32 : BitVec 32 := 51#32
  let v515 : BitVec 32 := Scalar.addi v514 c51_i32
  let v516 : Index := Scalar.indexCast v515
  ![v516.toNat]
def k0_off287 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off288 (v517 : BitVec 32) : Fin 2 → Nat :=
  let c0_i32_221 : BitVec 32 := 0#32
  ![v517.toNat, 0]

def k0_chk52 (i : grid0.Coords) (v517 : BitVec 32) : Prop :=
  (∀ (k0_h11 : k0_cond11 i = 1#1), ∀ a, (k0_off288 v517) a + S1x8192.size a ≤ S512x8192.size a)
theorem k0_off288_inb : ∀ (i : grid0.Coords) (v517 : BitVec 32) (k0_hw52 : k0_chk52 i v517), ∀ (k0_h11 : k0_cond11 i = 1#1), ∀ a, (k0_off288 v517) a + S1x8192.size a ≤ S512x8192.size a := fun i v517 k0_hw52 k0_h11 => k0_hw52 k0_h11

def k0_off289 (i : grid0.Coords) : Fin 3 → Nat :=
  let arg0 : BitVec 32 := BitVec.ofNat 32 (i 0).val
  let c2_i32 : BitVec 32 := 2#32
  let v0 : BitVec 32 := Scalar.remsi arg0 c2_i32
  let c51_i32_222 : BitVec 32 := 51#32
  let c0_i32_223 : BitVec 32 := 0#32
  ![v0.toNat, 51, 0]
def k0_off290 (i : grid0.Coords) : Fin 1 → Nat :=
  let arg0 : BitVec 32 := BitVec.ofNat 32 (i 0).val
  let c64_i32_224 : BitVec 32 := 64#32
  let v523 : BitVec 32 := Scalar.muli arg0 c64_i32_224
  let c52_i32 : BitVec 32 := 52#32
  let v524 : BitVec 32 := Scalar.addi v523 c52_i32
  let v525 : Index := Scalar.indexCast v524
  ![v525.toNat]
def k0_off291 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off292 (v526 : BitVec 32) : Fin 2 → Nat :=
  let c0_i32_225 : BitVec 32 := 0#32
  ![v526.toNat, 0]

def k0_chk53 (i : grid0.Coords) (v526 : BitVec 32) : Prop :=
  (∀ (k0_h11 : k0_cond11 i = 1#1), ∀ a, (k0_off292 v526) a + S1x8192.size a ≤ S512x8192.size a)
theorem k0_off292_inb : ∀ (i : grid0.Coords) (v526 : BitVec 32) (k0_hw53 : k0_chk53 i v526), ∀ (k0_h11 : k0_cond11 i = 1#1), ∀ a, (k0_off292 v526) a + S1x8192.size a ≤ S512x8192.size a := fun i v526 k0_hw53 k0_h11 => k0_hw53 k0_h11

def k0_off293 (i : grid0.Coords) : Fin 3 → Nat :=
  let arg0 : BitVec 32 := BitVec.ofNat 32 (i 0).val
  let c2_i32 : BitVec 32 := 2#32
  let v0 : BitVec 32 := Scalar.remsi arg0 c2_i32
  let c52_i32_226 : BitVec 32 := 52#32
  let c0_i32_227 : BitVec 32 := 0#32
  ![v0.toNat, 52, 0]
def k0_off294 (i : grid0.Coords) : Fin 1 → Nat :=
  let arg0 : BitVec 32 := BitVec.ofNat 32 (i 0).val
  let c64_i32_228 : BitVec 32 := 64#32
  let v532 : BitVec 32 := Scalar.muli arg0 c64_i32_228
  let c53_i32 : BitVec 32 := 53#32
  let v533 : BitVec 32 := Scalar.addi v532 c53_i32
  let v534 : Index := Scalar.indexCast v533
  ![v534.toNat]
def k0_off295 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off296 (v535 : BitVec 32) : Fin 2 → Nat :=
  let c0_i32_229 : BitVec 32 := 0#32
  ![v535.toNat, 0]

def k0_chk54 (i : grid0.Coords) (v535 : BitVec 32) : Prop :=
  (∀ (k0_h11 : k0_cond11 i = 1#1), ∀ a, (k0_off296 v535) a + S1x8192.size a ≤ S512x8192.size a)
theorem k0_off296_inb : ∀ (i : grid0.Coords) (v535 : BitVec 32) (k0_hw54 : k0_chk54 i v535), ∀ (k0_h11 : k0_cond11 i = 1#1), ∀ a, (k0_off296 v535) a + S1x8192.size a ≤ S512x8192.size a := fun i v535 k0_hw54 k0_h11 => k0_hw54 k0_h11

def k0_off297 (i : grid0.Coords) : Fin 3 → Nat :=
  let arg0 : BitVec 32 := BitVec.ofNat 32 (i 0).val
  let c2_i32 : BitVec 32 := 2#32
  let v0 : BitVec 32 := Scalar.remsi arg0 c2_i32
  let c53_i32_230 : BitVec 32 := 53#32
  let c0_i32_231 : BitVec 32 := 0#32
  ![v0.toNat, 53, 0]
def k0_off298 (i : grid0.Coords) : Fin 1 → Nat :=
  let arg0 : BitVec 32 := BitVec.ofNat 32 (i 0).val
  let c64_i32_232 : BitVec 32 := 64#32
  let v541 : BitVec 32 := Scalar.muli arg0 c64_i32_232
  let c54_i32 : BitVec 32 := 54#32
  let v542 : BitVec 32 := Scalar.addi v541 c54_i32
  let v543 : Index := Scalar.indexCast v542
  ![v543.toNat]
def k0_off299 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off300 (v544 : BitVec 32) : Fin 2 → Nat :=
  let c0_i32_233 : BitVec 32 := 0#32
  ![v544.toNat, 0]

def k0_chk55 (i : grid0.Coords) (v544 : BitVec 32) : Prop :=
  (∀ (k0_h11 : k0_cond11 i = 1#1), ∀ a, (k0_off300 v544) a + S1x8192.size a ≤ S512x8192.size a)
theorem k0_off300_inb : ∀ (i : grid0.Coords) (v544 : BitVec 32) (k0_hw55 : k0_chk55 i v544), ∀ (k0_h11 : k0_cond11 i = 1#1), ∀ a, (k0_off300 v544) a + S1x8192.size a ≤ S512x8192.size a := fun i v544 k0_hw55 k0_h11 => k0_hw55 k0_h11

def k0_off301 (i : grid0.Coords) : Fin 3 → Nat :=
  let arg0 : BitVec 32 := BitVec.ofNat 32 (i 0).val
  let c2_i32 : BitVec 32 := 2#32
  let v0 : BitVec 32 := Scalar.remsi arg0 c2_i32
  let c54_i32_234 : BitVec 32 := 54#32
  let c0_i32_235 : BitVec 32 := 0#32
  ![v0.toNat, 54, 0]
def k0_off302 (i : grid0.Coords) : Fin 1 → Nat :=
  let arg0 : BitVec 32 := BitVec.ofNat 32 (i 0).val
  let c64_i32_236 : BitVec 32 := 64#32
  let v550 : BitVec 32 := Scalar.muli arg0 c64_i32_236
  let c55_i32 : BitVec 32 := 55#32
  let v551 : BitVec 32 := Scalar.addi v550 c55_i32
  let v552 : Index := Scalar.indexCast v551
  ![v552.toNat]
def k0_off303 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off304 (v553 : BitVec 32) : Fin 2 → Nat :=
  let c0_i32_237 : BitVec 32 := 0#32
  ![v553.toNat, 0]

def k0_chk56 (i : grid0.Coords) (v553 : BitVec 32) : Prop :=
  (∀ (k0_h11 : k0_cond11 i = 1#1), ∀ a, (k0_off304 v553) a + S1x8192.size a ≤ S512x8192.size a)
theorem k0_off304_inb : ∀ (i : grid0.Coords) (v553 : BitVec 32) (k0_hw56 : k0_chk56 i v553), ∀ (k0_h11 : k0_cond11 i = 1#1), ∀ a, (k0_off304 v553) a + S1x8192.size a ≤ S512x8192.size a := fun i v553 k0_hw56 k0_h11 => k0_hw56 k0_h11

def k0_off305 (i : grid0.Coords) : Fin 3 → Nat :=
  let arg0 : BitVec 32 := BitVec.ofNat 32 (i 0).val
  let c2_i32 : BitVec 32 := 2#32
  let v0 : BitVec 32 := Scalar.remsi arg0 c2_i32
  let c55_i32_238 : BitVec 32 := 55#32
  let c0_i32_239 : BitVec 32 := 0#32
  ![v0.toNat, 55, 0]
def k0_off306 (i : grid0.Coords) : Fin 1 → Nat :=
  let arg0 : BitVec 32 := BitVec.ofNat 32 (i 0).val
  let c64_i32_240 : BitVec 32 := 64#32
  let v559 : BitVec 32 := Scalar.muli arg0 c64_i32_240
  let c56_i32 : BitVec 32 := 56#32
  let v560 : BitVec 32 := Scalar.addi v559 c56_i32
  let v561 : Index := Scalar.indexCast v560
  ![v561.toNat]
def k0_off307 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off308 (v562 : BitVec 32) : Fin 2 → Nat :=
  let c0_i32_241 : BitVec 32 := 0#32
  ![v562.toNat, 0]

def k0_chk57 (i : grid0.Coords) (v562 : BitVec 32) : Prop :=
  (∀ (k0_h11 : k0_cond11 i = 1#1), ∀ a, (k0_off308 v562) a + S1x8192.size a ≤ S512x8192.size a)
theorem k0_off308_inb : ∀ (i : grid0.Coords) (v562 : BitVec 32) (k0_hw57 : k0_chk57 i v562), ∀ (k0_h11 : k0_cond11 i = 1#1), ∀ a, (k0_off308 v562) a + S1x8192.size a ≤ S512x8192.size a := fun i v562 k0_hw57 k0_h11 => k0_hw57 k0_h11

def k0_off309 (i : grid0.Coords) : Fin 3 → Nat :=
  let arg0 : BitVec 32 := BitVec.ofNat 32 (i 0).val
  let c2_i32 : BitVec 32 := 2#32
  let v0 : BitVec 32 := Scalar.remsi arg0 c2_i32
  let c56_i32_242 : BitVec 32 := 56#32
  let c0_i32_243 : BitVec 32 := 0#32
  ![v0.toNat, 56, 0]
def k0_off310 (i : grid0.Coords) : Fin 1 → Nat :=
  let arg0 : BitVec 32 := BitVec.ofNat 32 (i 0).val
  let c64_i32_244 : BitVec 32 := 64#32
  let v568 : BitVec 32 := Scalar.muli arg0 c64_i32_244
  let c57_i32 : BitVec 32 := 57#32
  let v569 : BitVec 32 := Scalar.addi v568 c57_i32
  let v570 : Index := Scalar.indexCast v569
  ![v570.toNat]
def k0_off311 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off312 (v571 : BitVec 32) : Fin 2 → Nat :=
  let c0_i32_245 : BitVec 32 := 0#32
  ![v571.toNat, 0]

def k0_chk58 (i : grid0.Coords) (v571 : BitVec 32) : Prop :=
  (∀ (k0_h11 : k0_cond11 i = 1#1), ∀ a, (k0_off312 v571) a + S1x8192.size a ≤ S512x8192.size a)
theorem k0_off312_inb : ∀ (i : grid0.Coords) (v571 : BitVec 32) (k0_hw58 : k0_chk58 i v571), ∀ (k0_h11 : k0_cond11 i = 1#1), ∀ a, (k0_off312 v571) a + S1x8192.size a ≤ S512x8192.size a := fun i v571 k0_hw58 k0_h11 => k0_hw58 k0_h11

def k0_off313 (i : grid0.Coords) : Fin 3 → Nat :=
  let arg0 : BitVec 32 := BitVec.ofNat 32 (i 0).val
  let c2_i32 : BitVec 32 := 2#32
  let v0 : BitVec 32 := Scalar.remsi arg0 c2_i32
  let c57_i32_246 : BitVec 32 := 57#32
  let c0_i32_247 : BitVec 32 := 0#32
  ![v0.toNat, 57, 0]
def k0_off314 (i : grid0.Coords) : Fin 1 → Nat :=
  let arg0 : BitVec 32 := BitVec.ofNat 32 (i 0).val
  let c64_i32_248 : BitVec 32 := 64#32
  let v577 : BitVec 32 := Scalar.muli arg0 c64_i32_248
  let c58_i32 : BitVec 32 := 58#32
  let v578 : BitVec 32 := Scalar.addi v577 c58_i32
  let v579 : Index := Scalar.indexCast v578
  ![v579.toNat]
def k0_off315 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off316 (v580 : BitVec 32) : Fin 2 → Nat :=
  let c0_i32_249 : BitVec 32 := 0#32
  ![v580.toNat, 0]

def k0_chk59 (i : grid0.Coords) (v580 : BitVec 32) : Prop :=
  (∀ (k0_h11 : k0_cond11 i = 1#1), ∀ a, (k0_off316 v580) a + S1x8192.size a ≤ S512x8192.size a)
theorem k0_off316_inb : ∀ (i : grid0.Coords) (v580 : BitVec 32) (k0_hw59 : k0_chk59 i v580), ∀ (k0_h11 : k0_cond11 i = 1#1), ∀ a, (k0_off316 v580) a + S1x8192.size a ≤ S512x8192.size a := fun i v580 k0_hw59 k0_h11 => k0_hw59 k0_h11

def k0_off317 (i : grid0.Coords) : Fin 3 → Nat :=
  let arg0 : BitVec 32 := BitVec.ofNat 32 (i 0).val
  let c2_i32 : BitVec 32 := 2#32
  let v0 : BitVec 32 := Scalar.remsi arg0 c2_i32
  let c58_i32_250 : BitVec 32 := 58#32
  let c0_i32_251 : BitVec 32 := 0#32
  ![v0.toNat, 58, 0]
def k0_off318 (i : grid0.Coords) : Fin 1 → Nat :=
  let arg0 : BitVec 32 := BitVec.ofNat 32 (i 0).val
  let c64_i32_252 : BitVec 32 := 64#32
  let v586 : BitVec 32 := Scalar.muli arg0 c64_i32_252
  let c59_i32 : BitVec 32 := 59#32
  let v587 : BitVec 32 := Scalar.addi v586 c59_i32
  let v588 : Index := Scalar.indexCast v587
  ![v588.toNat]
def k0_off319 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off320 (v589 : BitVec 32) : Fin 2 → Nat :=
  let c0_i32_253 : BitVec 32 := 0#32
  ![v589.toNat, 0]

def k0_chk60 (i : grid0.Coords) (v589 : BitVec 32) : Prop :=
  (∀ (k0_h11 : k0_cond11 i = 1#1), ∀ a, (k0_off320 v589) a + S1x8192.size a ≤ S512x8192.size a)
theorem k0_off320_inb : ∀ (i : grid0.Coords) (v589 : BitVec 32) (k0_hw60 : k0_chk60 i v589), ∀ (k0_h11 : k0_cond11 i = 1#1), ∀ a, (k0_off320 v589) a + S1x8192.size a ≤ S512x8192.size a := fun i v589 k0_hw60 k0_h11 => k0_hw60 k0_h11

def k0_off321 (i : grid0.Coords) : Fin 3 → Nat :=
  let arg0 : BitVec 32 := BitVec.ofNat 32 (i 0).val
  let c2_i32 : BitVec 32 := 2#32
  let v0 : BitVec 32 := Scalar.remsi arg0 c2_i32
  let c59_i32_254 : BitVec 32 := 59#32
  let c0_i32_255 : BitVec 32 := 0#32
  ![v0.toNat, 59, 0]
def k0_off322 (i : grid0.Coords) : Fin 1 → Nat :=
  let arg0 : BitVec 32 := BitVec.ofNat 32 (i 0).val
  let c64_i32_256 : BitVec 32 := 64#32
  let v595 : BitVec 32 := Scalar.muli arg0 c64_i32_256
  let c60_i32 : BitVec 32 := 60#32
  let v596 : BitVec 32 := Scalar.addi v595 c60_i32
  let v597 : Index := Scalar.indexCast v596
  ![v597.toNat]
def k0_off323 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off324 (v598 : BitVec 32) : Fin 2 → Nat :=
  let c0_i32_257 : BitVec 32 := 0#32
  ![v598.toNat, 0]

def k0_chk61 (i : grid0.Coords) (v598 : BitVec 32) : Prop :=
  (∀ (k0_h11 : k0_cond11 i = 1#1), ∀ a, (k0_off324 v598) a + S1x8192.size a ≤ S512x8192.size a)
theorem k0_off324_inb : ∀ (i : grid0.Coords) (v598 : BitVec 32) (k0_hw61 : k0_chk61 i v598), ∀ (k0_h11 : k0_cond11 i = 1#1), ∀ a, (k0_off324 v598) a + S1x8192.size a ≤ S512x8192.size a := fun i v598 k0_hw61 k0_h11 => k0_hw61 k0_h11

def k0_off325 (i : grid0.Coords) : Fin 3 → Nat :=
  let arg0 : BitVec 32 := BitVec.ofNat 32 (i 0).val
  let c2_i32 : BitVec 32 := 2#32
  let v0 : BitVec 32 := Scalar.remsi arg0 c2_i32
  let c60_i32_258 : BitVec 32 := 60#32
  let c0_i32_259 : BitVec 32 := 0#32
  ![v0.toNat, 60, 0]
def k0_off326 (i : grid0.Coords) : Fin 1 → Nat :=
  let arg0 : BitVec 32 := BitVec.ofNat 32 (i 0).val
  let c64_i32_260 : BitVec 32 := 64#32
  let v604 : BitVec 32 := Scalar.muli arg0 c64_i32_260
  let c61_i32 : BitVec 32 := 61#32
  let v605 : BitVec 32 := Scalar.addi v604 c61_i32
  let v606 : Index := Scalar.indexCast v605
  ![v606.toNat]
def k0_off327 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off328 (v607 : BitVec 32) : Fin 2 → Nat :=
  let c0_i32_261 : BitVec 32 := 0#32
  ![v607.toNat, 0]

def k0_chk62 (i : grid0.Coords) (v607 : BitVec 32) : Prop :=
  (∀ (k0_h11 : k0_cond11 i = 1#1), ∀ a, (k0_off328 v607) a + S1x8192.size a ≤ S512x8192.size a)
theorem k0_off328_inb : ∀ (i : grid0.Coords) (v607 : BitVec 32) (k0_hw62 : k0_chk62 i v607), ∀ (k0_h11 : k0_cond11 i = 1#1), ∀ a, (k0_off328 v607) a + S1x8192.size a ≤ S512x8192.size a := fun i v607 k0_hw62 k0_h11 => k0_hw62 k0_h11

def k0_off329 (i : grid0.Coords) : Fin 3 → Nat :=
  let arg0 : BitVec 32 := BitVec.ofNat 32 (i 0).val
  let c2_i32 : BitVec 32 := 2#32
  let v0 : BitVec 32 := Scalar.remsi arg0 c2_i32
  let c61_i32_262 : BitVec 32 := 61#32
  let c0_i32_263 : BitVec 32 := 0#32
  ![v0.toNat, 61, 0]
def k0_off330 (i : grid0.Coords) : Fin 1 → Nat :=
  let arg0 : BitVec 32 := BitVec.ofNat 32 (i 0).val
  let c64_i32_264 : BitVec 32 := 64#32
  let v613 : BitVec 32 := Scalar.muli arg0 c64_i32_264
  let c62_i32 : BitVec 32 := 62#32
  let v614 : BitVec 32 := Scalar.addi v613 c62_i32
  let v615 : Index := Scalar.indexCast v614
  ![v615.toNat]
def k0_off331 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off332 (v616 : BitVec 32) : Fin 2 → Nat :=
  let c0_i32_265 : BitVec 32 := 0#32
  ![v616.toNat, 0]

def k0_chk63 (i : grid0.Coords) (v616 : BitVec 32) : Prop :=
  (∀ (k0_h11 : k0_cond11 i = 1#1), ∀ a, (k0_off332 v616) a + S1x8192.size a ≤ S512x8192.size a)
theorem k0_off332_inb : ∀ (i : grid0.Coords) (v616 : BitVec 32) (k0_hw63 : k0_chk63 i v616), ∀ (k0_h11 : k0_cond11 i = 1#1), ∀ a, (k0_off332 v616) a + S1x8192.size a ≤ S512x8192.size a := fun i v616 k0_hw63 k0_h11 => k0_hw63 k0_h11

def k0_off333 (i : grid0.Coords) : Fin 3 → Nat :=
  let arg0 : BitVec 32 := BitVec.ofNat 32 (i 0).val
  let c2_i32 : BitVec 32 := 2#32
  let v0 : BitVec 32 := Scalar.remsi arg0 c2_i32
  let c62_i32_266 : BitVec 32 := 62#32
  let c0_i32_267 : BitVec 32 := 0#32
  ![v0.toNat, 62, 0]
def k0_off334 (i : grid0.Coords) : Fin 1 → Nat :=
  let arg0 : BitVec 32 := BitVec.ofNat 32 (i 0).val
  let c64_i32_268 : BitVec 32 := 64#32
  let v622 : BitVec 32 := Scalar.muli arg0 c64_i32_268
  let c63_i32 : BitVec 32 := 63#32
  let v623 : BitVec 32 := Scalar.addi v622 c63_i32
  let v624 : Index := Scalar.indexCast v623
  ![v624.toNat]
def k0_off335 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off336 (v625 : BitVec 32) : Fin 2 → Nat :=
  let c0_i32_269 : BitVec 32 := 0#32
  ![v625.toNat, 0]

def k0_chk64 (i : grid0.Coords) (v625 : BitVec 32) : Prop :=
  (∀ (k0_h11 : k0_cond11 i = 1#1), ∀ a, (k0_off336 v625) a + S1x8192.size a ≤ S512x8192.size a)
theorem k0_off336_inb : ∀ (i : grid0.Coords) (v625 : BitVec 32) (k0_hw64 : k0_chk64 i v625), ∀ (k0_h11 : k0_cond11 i = 1#1), ∀ a, (k0_off336 v625) a + S1x8192.size a ≤ S512x8192.size a := fun i v625 k0_hw64 k0_h11 => k0_hw64 k0_h11

def k0_off337 (i : grid0.Coords) : Fin 3 → Nat :=
  let arg0 : BitVec 32 := BitVec.ofNat 32 (i 0).val
  let c2_i32 : BitVec 32 := 2#32
  let v0 : BitVec 32 := Scalar.remsi arg0 c2_i32
  let c63_i32_270 : BitVec 32 := 63#32
  let c0_i32_271 : BitVec 32 := 0#32
  ![v0.toNat, 63, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x32x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S512x32x128 : Shape := ⟨3, ![512, 32, 128]⟩
abbrev S8192x128 : Shape := ⟨2, ![8192, 128]⟩
abbrev S512x32 : Shape := ⟨2, ![512, 32]⟩
abbrev S512 : Shape := ⟨1, ![512]⟩
abbrev S512x32x8192 : Shape := ⟨3, ![512, 32, 8192]⟩
abbrev S_ : Shape := ⟨0, ![]⟩
abbrev S512x8192 : Shape := ⟨2, ![512, 8192]⟩
abbrev S8192 : Shape := ⟨1, ![8192]⟩
abbrev S1x8192 : Shape := ⟨2, ![1, 8192]⟩
abbrev S512x1 : Shape := ⟨2, ![512, 1]⟩

abbrev nBuf : Space → Nat
  | .hbm => 25
  | .vmem => 0
  | .smem => 0
  | _ => 0

abbrev bufTy : (tb : Table) → Fin (tcTables nBuf tb) → BufTy
  | .hbm, ⟨0, _⟩ => ⟨S512x32x128, .f32⟩
  | .hbm, ⟨1, _⟩ => ⟨S8192x128, .f32⟩
  | .hbm, ⟨2, _⟩ => ⟨S512x32, .f32⟩
  | .hbm, ⟨3, _⟩ => ⟨S512, .i32⟩
  | .hbm, ⟨4, _⟩ => ⟨S512, .i32⟩
  | .hbm, ⟨5, _⟩ => ⟨S512x32x8192, .f32⟩
  | .hbm, ⟨6, _⟩ => ⟨S_, .f32⟩
  | .hbm, ⟨7, _⟩ => ⟨S512x32x8192, .f32⟩
  | .hbm, ⟨8, _⟩ => ⟨S512x32x8192, .f32⟩
  | .hbm, ⟨9, _⟩ => ⟨S512x8192, .f32⟩
  | .hbm, ⟨10, _⟩ => ⟨S8192, .i32⟩
  | .hbm, ⟨11, _⟩ => ⟨S1x8192, .i32⟩
  | .hbm, ⟨12, _⟩ => ⟨S512x1, .i32⟩
  | .hbm, ⟨13, _⟩ => ⟨S512x8192, .i32⟩
  | .hbm, ⟨14, _⟩ => ⟨S512x8192, .i32⟩
  | .hbm, ⟨15, _⟩ => ⟨S512x8192, .i1⟩
  | .hbm, ⟨16, _⟩ => ⟨S512x1, .i32⟩
  | .hbm, ⟨17, _⟩ => ⟨S512x8192, .i32⟩
  | .hbm, ⟨18, _⟩ => ⟨S512x8192, .i32⟩
  | .hbm, ⟨19, _⟩ => ⟨S512x8192, .i1⟩
  | .hbm, ⟨20, _⟩ => ⟨S512x8192, .i1⟩
  | .hbm, ⟨21, _⟩ => ⟨S_, .f32⟩
  | .hbm, ⟨22, _⟩ => ⟨S_, .f32⟩
  | .hbm, ⟨23, _⟩ => ⟨S512x8192, .f32⟩
  | .hbm, ⟨24, _⟩ => ⟨S512x8192, .f32⟩
  | _, _ => ⟨S512x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Order.lean ====
/-
  The order in which the kernel visits its rows: the stable sort of the rows by their end position.
  Pure mathematics, no program in it. A row comes before another if its end is smaller as a signed word, or the ends
  agree and its index is smaller. The number of rows before a row is that row's place, the places are all different,
  and the table that names the row at each place is a permutation.
-/
module

public import Idealize.ShloMosaic.Lib.IndicatorCount
public import Idealize.ShloMosaic.Lib.WordCmp

@[expose] public section

noncomputable section

namespace Cert.Order

open Idealize.ShloMosaic

variable {n : ℕ} (e : Fin n → BitVec 32)

/-- Row `j` is visited before row `i`: a smaller end, or the same end and a smaller index. -/
def Before (j i : Fin n) : Prop := (e j).toInt < (e i).toInt ∨ (e j = e i ∧ j < i)

/-- Being visited before is decidable. -/
instance (j i : Fin n) : Decidable (Before e j i) := by unfold Before; infer_instance

/-- No row is before itself. -/
theorem before_irrefl (i : Fin n) : ¬ Before e i i := by
  rintro (h | ⟨_, h⟩)
  · exact lt_irrefl _ h
  · exact lt_irrefl _ h

/-- Being before is transitive. -/
theorem before_trans {a b c : Fin n} (h : Before e a b) (h' : Before e b c) : Before e a c := by
  rcases h with h | ⟨h, hl⟩ <;> rcases h' with h' | ⟨h', hl'⟩
  · exact Or.inl (h.trans h')
  · exact Or.inl (h' ▸ h)
  · exact Or.inl (h ▸ h')
  · exact Or.inr ⟨h.trans h', hl.trans hl'⟩

/-- Of two different rows one is before the other. -/
theorem before_total {a b : Fin n} (hab : a ≠ b) : Before e a b ∨ Before e b a := by
  rcases lt_trichotomy (e a).toInt (e b).toInt with h | h | h
  · exact Or.inl (Or.inl h)
  · have he : e a = e b := BitVec.eq_of_toInt_eq h
    rcases lt_or_gt_of_ne hab with hl | hl
    · exact Or.inl (Or.inr ⟨he, hl⟩)
    · exact Or.inr (Or.inr ⟨he.symm, hl⟩)
  · exact Or.inr (Or.inl h)

/-- The place of a row: how many rows are visited before it. -/
def place (i : Fin n) : ℕ := (Finset.univ.filter fun j => Before e j i).card

/-- A row before another has the smaller place. -/
theorem place_lt_place {a b : Fin n} (h : Before e a b) : place e a < place e b := by
  refine Finset.card_lt_card ⟨fun j hj => ?_, fun hs => ?_⟩
  · rw [Finset.mem_filter] at hj ⊢
    exact ⟨hj.1, before_trans e hj.2 h⟩
  · have ha := hs (Finset.mem_filter.2 ⟨Finset.mem_univ a, h⟩)
    exact before_irrefl e a (Finset.mem_filter.1 ha).2

/-- Every place is below the number of rows. -/
theorem place_lt (i : Fin n) : place e i < n := by
  have h : (Finset.univ.filter fun j => Before e j i) ⊂ Finset.univ :=
    Finset.filter_ssubset.2 ⟨i, Finset.mem_univ i, before_irrefl e i⟩
  simpa [place] using Finset.card_lt_card h

/-- Different rows have different places. -/
theorem place_injective : Function.Injective fun i : Fin n => (⟨place e i, place_lt e i⟩ : Fin n) := by
  intro a b h
  by_contra hab
  have hp : place e a = place e b := congrArg Fin.val h
  rcases before_total e hab with h' | h'
  · exact absurd (place_lt_place e h') (by omega)
  · exact absurd (place_lt_place e h') (by omega)

/-- The rows and their places correspond one to one. -/
def places : Fin n ≃ Fin n :=
  Equiv.ofBijective _ (Finite.injective_iff_bijective.1 (place_injective e))

/-- The row visited at a place. -/
def rowAt (k : Fin n) : Fin n := (places e).symm k

/-- The row at a place has that place. -/
theorem place_rowAt (k : Fin n) : place e (rowAt e k) = k.val :=
  congrArg Fin.val ((places e).apply_symm_apply k)

/-- Only the row at a place has that place. -/
theorem place_eq_iff (i k : Fin n) : place e i = k.val ↔ i = rowAt e k := by
  constructor
  · intro h
    exact ((places e).eq_symm_apply).2 (Fin.ext h)
  · rintro rfl
    exact place_rowAt e k

/-- Different places hold different rows. -/
theorem rowAt_injective : Function.Injective (rowAt e) := (places e).symm.injective

/-- Every row has a place. -/
theorem rowAt_surjective : Function.Surjective (rowAt e) := (places e).symm.surjective

/-- A sum that keeps one index: the fold by word addition of the index words times the indicator of being `a`. -/
theorem fold_pick {ι : Type} [DecidableEq ι] (f : ι → BitVec 32) (p : ι → BitVec 1) (a : ι)
    (hp : ∀ k, p k = 1#1 ↔ k = a) (S : Finset ι) :
    S.fold IntOp.addi 0#32 (fun k => (p k).setWidth 32 * f k) = if a ∈ S then f a else 0#32 := by
  have h01 : ∀ k, k ≠ a → p k = 0#1 := by
    intro k hk
    have h1 : p k ≠ 1#1 := fun h => hk ((hp k).1 h)
    have := (p k).isLt
    apply BitVec.eq_of_toNat_eq
    have h2 : (p k).toNat ≠ 1 := fun h => h1 (BitVec.eq_of_toNat_eq (by simpa using h))
    show (p k).toNat = 0
    omega
  induction S using Finset.induction_on with
  | empty => rfl
  | insert b S hb ih =>
    rw [Finset.fold_insert hb, ih]
    by_cases hba : b = a
    · subst hba
      rw [(hp b).2 rfl, if_neg hb, if_pos (Finset.mem_insert_self _ _)]
      show (1#1 : BitVec 1).setWidth 32 * f b + 0#32 = f b
      have e1 : (1#1 : BitVec 1).setWidth 32 = 1#32 := by decide
      rw [e1, BitVec.one_mul, BitVec.add_zero]
    · rw [h01 b hba]
      show (0#1 : BitVec 1).setWidth 32 * f b + _ = _
      have e0 : (0#1 : BitVec 1).setWidth 32 = 0#32 := by decide
      rw [e0, BitVec.zero_mul, BitVec.zero_add]
      have hab : ¬ a = b := fun h => hba h.symm
      simp only [Finset.mem_insert, hab, false_or]

/-- The word the host computes for a place: over all rows, the sum of the row's index where the row's place is `k`, a
    row's place being the count of the rows before it. It is the index of the row at place `k`. -/
theorem fold_order {n : ℕ} (hn : n < 2 ^ 31) (e : Fin n → BitVec 32) (k : Fin n) :
    Finset.fold IntOp.addi (0#32) (fun x : Fin n => IntOp.muli (BitVec.setWidth 32 (IntOp.cmpi CmpIPredicate.eq
        (Finset.fold IntOp.addi (0#32) (fun j : Fin n => BitVec.setWidth 32
          (IntOp.ori (IntOp.cmpi CmpIPredicate.slt (e j) (e x))
            (IntOp.andi (IntOp.cmpi CmpIPredicate.eq (e j) (e x))
              (IntOp.cmpi CmpIPredicate.slt (BitVec.ofNat 32 j.val) (BitVec.ofNat 32 x.val))))) Finset.univ)
        (BitVec.ofNat 32 k.val))) (BitVec.ofNat 32 x.val)) Finset.univ
      = BitVec.ofNat 32 (rowAt e k).val := by
  have hb : ∀ j x : Fin n, (IntOp.ori (IntOp.cmpi CmpIPredicate.slt (e j) (e x))
      (IntOp.andi (IntOp.cmpi CmpIPredicate.eq (e j) (e x))
        (IntOp.cmpi CmpIPredicate.slt (BitVec.ofNat 32 j.val) (BitVec.ofNat 32 x.val)))) = 1#1 ↔ Before e j x := by
    intro j x
    have hj := j.isLt
    have hx := x.isLt
    have e1 : IntOp.cmpi CmpIPredicate.slt (BitVec.ofNat 32 j.val) (BitVec.ofNat 32 x.val) = BitVec.ofBool (decide (j < x)) := by
      show BitVec.ofBool ((BitVec.ofNat 32 j.val).slt (BitVec.ofNat 32 x.val)) = _
      congr 1
      rw [BitVec.slt, WordCmp.toInt_ofNat_of_lt (by omega), WordCmp.toInt_ofNat_of_lt (by omega)]
      simp
    have e2 : IntOp.cmpi CmpIPredicate.slt (e j) (e x) = BitVec.ofBool (decide ((e j).toInt < (e x).toInt)) := rfl
    have e3 : IntOp.cmpi CmpIPredicate.eq (e j) (e x) = BitVec.ofBool (decide (e j = e x)) := by
      show BitVec.ofBool (e j == e x) = _
      congr 1
    rw [e1, e2, e3]
    unfold Before
    by_cases h1 : (e j).toInt < (e x).toInt <;> by_cases h2 : e j = e x <;> by_cases h3 : j < x <;>
      simp [h1, h2, h3] <;> decide
  have hr : ∀ x : Fin n, Finset.fold IntOp.addi (0#32) (fun j : Fin n => BitVec.setWidth 32
      (IntOp.ori (IntOp.cmpi CmpIPredicate.slt (e j) (e x))
        (IntOp.andi (IntOp.cmpi CmpIPredicate.eq (e j) (e x))
          (IntOp.cmpi CmpIPredicate.slt (BitVec.ofNat 32 j.val) (BitVec.ofNat 32 x.val))))) Finset.univ
      = BitVec.ofNat 32 (place e x) := by
    intro x
    rw [IndicatorCount.fold_addi_setWidth_eq_card]
    simp only [hb]
    rfl
  simp only [hr]
  have hp : ∀ x : Fin n, IntOp.cmpi CmpIPredicate.eq (BitVec.ofNat 32 (place e x)) (BitVec.ofNat 32 k.val) = 1#1
      ↔ x = rowAt e k := by
    intro x
    rw [← place_eq_iff]
    have h1 := place_lt e x
    have h2 := k.isLt
    show BitVec.ofBool (BitVec.ofNat 32 (place e x) == BitVec.ofNat 32 k.val) = 1#1 ↔ _
    rw [← WordCmp.ofNat_eq_ofNat_iff (w := 32) (by omega) (by omega)]
    have ho : ∀ b : Bool, BitVec.ofBool b = 1#1 ↔ b = true := by decide
    rw [ho, beq_iff_eq]
  refine (fold_pick (fun x : Fin n => BitVec.ofNat 32 x.val) _ (rowAt e k) hp Finset.univ).trans ?_
  rw [if_pos (Finset.mem_univ _)]

/-- The signed maximum of a family of words, folded from the least word, is at least each of them. -/
theorem le_fold_maxsi {ι : Type} [DecidableEq ι] (f : ι → BitVec 32) (b : BitVec 32) (S : Finset ι) {a : ι} (ha : a ∈ S) :
    (f a).toInt ≤ (S.fold IntOp.maxsi b f).toInt := by
  have hmax : ∀ x y : BitVec 32, x.toInt ≤ (IntOp.maxsi x y).toInt ∧ y.toInt ≤ (IntOp.maxsi x y).toInt := by
    intro x y
    unfold IntOp.maxsi
    split
    · rename_i h
      simp only [BitVec.slt, decide_eq_true_eq] at h
      omega
    · rename_i h
      simp only [BitVec.slt, decide_eq_true_eq] at h
      omega
  induction S using Finset.induction_on with
  | empty => exact absurd ha (Finset.notMem_empty _)
  | insert c S hc ih =>
    rw [Finset.fold_insert hc]
    rcases Finset.mem_insert.1 ha with rfl | h
    · exact (hmax _ _).1
    · exact (ih h).trans (hmax _ _).2

end Cert.Order

end
-- ==== Proof.Host.lean ====
/-
  What the host's operations hand to the kernel: the table of rows (a permutation), the table of block ends, and the
  gathered queries, weights and ends, each read at an index.
-/
module

public import proofs.«01_k».proof.Proof.Gen.KernelIdeal.Launch
public import proofs.«01_k».proof.Proof.Order
public import Idealize.ShloMosaic.Lib.Pointwise
public import Idealize.ShloMosaic.Lib.StableHlo.ReadAt
public import Idealize.ShloMosaic.Lib.ValueIdx
public import Idealize.ShloMosaic.Lib.Tactic
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]
variable {α : Type}
variable (m : (ℓ : Loc nD τ sig) → Buf (Elt F) ℓ)

/-- A buffer of one device when the kernel starts: what the host's line of operations leaves there. -/
def V (c : Dev nD) (b : Ref sig .tc) : Buf (Elt F) ((c : Thread nD τ).loc b) := StableHlo.after hostOps0 (fun b => m (c, b)) b

/-- The end position of a row, as the caller's array gives it. -/
def ends (c : Dev nD) (i : Fin 512) : BitVec 32 := m ((c : Thread nD τ).loc main_arg4) (ix1 i)

/-- The table of rows: at place `k` the row that the stable sort by end puts there. -/
theorem V_order (c : Dev nD) (k : Fin 512) :
    V m c main_call0_v29 (ix1 k) = BitVec.ofNat 32 (Order.rowAt (ends m c) k).val := by
  unfold V
  after_reads_at
  exact Order.fold_order (by norm_num) (ends m c) k

/-- The host's line after the table of rows: the same contents, from the ones that the first operations leave. -/
theorem V_split (c : Dev nD) (b : Ref sig .tc) :
    V m c b = StableHlo.after (hostOps0.drop 32) (StableHlo.after (hostOps0.take 32) (fun b => m (c, b))) b := by
  unfold V
  rw [← Idealize.ShloMosaic.StableHlo.after_append, List.take_append_drop]

/-- A start index word that is a row number, read signed and kept in range, is that row number. -/
theorem start_row {v : BitVec 32} {r : Fin 512} (hr : v = BitVec.ofNat 32 r.val) : min v.toInt.toNat (512 - 1) + 0 + 0 = r.val := by
  have hl := r.isLt
  rw [hr, WordCmp.toInt_ofNat_of_lt (by omega)]
  simp
  omega

/-- Gathering rows of a three axis array: the row that the table of start indices names. -/
theorem gather_q (x : S512x32x128.Idx → α) (idx : IVec S512x1 32) (p r : Fin 512) (h : Fin 32) (d : Fin 128)
    (hr : idx (ix2 p 0) = BitVec.ofNat 32 r.val) :
    Host.gather gather_S512x32x128_S512x1_S512x32x128_12_0_n_n_0_1_132128 x idx (ix3 p h d) = x (ix3 r h d) := by
  refine congrArg x (funext fun a => Fin.ext ?_)
  match a with
  | ⟨0, _⟩ =>
    refine Eq.trans ?_ (start_row hr)
    show min (idx (GatherDims.siIdx _ _ _)).toInt.toNat (512 - 1) + 0 + 0 = _
    congr 5
    refine congrArg idx (funext fun b => ?_)
    match b with
    | ⟨0, _⟩ => rfl
    | ⟨1, _⟩ => rfl
  | ⟨1, _⟩ => show 0 + 0 + h.val = h.val; omega
  | ⟨2, _⟩ => show 0 + 0 + d.val = d.val; omega

/-- Gathering rows of a two axis array. -/
theorem gather_w (x : S512x32.Idx → α) (idx : IVec S512x1 32) (p r : Fin 512) (h : Fin 32)
    (hr : idx (ix2 p 0) = BitVec.ofNat 32 r.val) :
    Host.gather gather_S512x32_S512x1_S512x32_1_0_n_n_0_1_132 x idx (ix2 p h) = x (ix2 r h) := by
  refine congrArg x (funext fun a => Fin.ext ?_)
  match a with
  | ⟨0, _⟩ =>
    refine Eq.trans ?_ (start_row hr)
    show min (idx (GatherDims.siIdx _ _ _)).toInt.toNat (512 - 1) + 0 + 0 = _
    congr 5
    refine congrArg idx (funext fun b => ?_)
    match b with
    | ⟨0, _⟩ => rfl
    | ⟨1, _⟩ => rfl
  | ⟨1, _⟩ => show 0 + 0 + h.val = h.val; omega

/-- Gathering entries of a one axis array. -/
theorem gather_e (x : S512.Idx → α) (idx : IVec S512x1 32) (p r : Fin 512)
    (hr : idx (ix2 p 0) = BitVec.ofNat 32 r.val) :
    Host.gather gather_S512_S512x1_S512_n_0_n_n_0_1_1 x idx (ix1 p) = x (ix1 r) := by
  refine congrArg x (funext fun a => Fin.ext ?_)
  match a with
  | ⟨0, _⟩ =>
    refine Eq.trans ?_ (start_row hr)
    show min (idx (GatherDims.siIdx _ _ _)).toInt.toNat (512 - 1) + 0 + 0 = _
    congr 5
    refine congrArg idx (funext fun b => ?_)
    match b with
    | ⟨0, _⟩ => rfl
    | ⟨1, _⟩ => rfl

/-- The column of start indices made from a table of row numbers: none of them is negative, so none is moved. -/
theorem start_table (o : IVec S512 32) (f : Fin 512 → Fin 512) (ho : ∀ k, o (ix1 k) = BitVec.ofNat 32 (f k).val) (p : Fin 512) :
    broadcastInDim S512x1 ![0] bcast_S512_S512x1_0
        (select (cmpi CmpIPredicate.slt o (broadcastInDim S512 ![] bcast_S_S512 (constantI S_ 32 0#32)))
          (addi o (broadcastInDim S512 ![] bcast_S_S512 (constantI S_ 32 512#32))) o) (ix2 p 0)
      = BitVec.ofNat 32 (f p).val := by
  have hl := (f p).isLt
  simp only [pointwise]
  show Scalar.select (IntOp.cmpi CmpIPredicate.slt (o (ix1 p)) 0#32) (IntOp.addi (o (ix1 p)) 512#32) (o (ix1 p)) = _
  rw [ho]
  unfold Scalar.select
  refine if_neg ?_
  show ¬ BitVec.ofBool ((BitVec.ofNat 32 (f p).val).slt 0#32) = 1#1
  have h0 : (BitVec.ofNat 32 (f p).val).slt 0#32 = false := by
    rw [BitVec.slt, WordCmp.toInt_ofNat_of_lt (by omega)]
    simp
  rw [h0]
  decide

/-- Row `r` of block `q`, of the 8 blocks of 64 rows. -/
def rowIx (q : Fin 8) (r : Fin 64) : Fin 512 := ⟨q.val * 64 + r.val, by omega⟩

/-- The row of the caller's arrays that row `r` of block `q` stands for. -/
def rowOf (c : Dev nD) (q : Fin 8) (r : Fin 64) : Fin 512 := Order.rowAt (ends m c) (rowIx q r)

/-- What the first operations leave: the table of rows, and the caller's arrays as they were. -/
theorem first_part (c : Dev nD) (W : Valuation τ sig (Elt F))
    (hW : (StableHlo.after (List.take 32 hostOps0) fun b => m (c, b)) = W) :
    (∀ k : Fin 512, (W (Proc.tc.devRef main_call0_v29) : IVec S512 32) (ix1 k) = BitVec.ofNat 32 (Order.rowAt (ends m c) k).val)
      ∧ W (Proc.tc.devRef main_arg0) = m (c, Proc.tc.devRef main_arg0)
      ∧ W (Proc.tc.devRef main_arg1) = m (c, Proc.tc.devRef main_arg1)
      ∧ W (Proc.tc.devRef main_arg2) = m (c, Proc.tc.devRef main_arg2)
      ∧ W (Proc.tc.devRef main_arg4) = m (c, Proc.tc.devRef main_arg4) := by
  subst hW
  simp only [hostOps0, List.take]
  refine ⟨fun k => ?_, ?_, ?_, ?_, ?_⟩
  · after_reads_at
    exact Order.fold_order (by norm_num) (ends m c) k
  all_goals after_reads_simp

/-- The ends in the order of the rows. -/
theorem V_ends (c : Dev nD) (p : Fin 512) :
    (V m c main_call0_v59 : IVec S512x1 32) (ix2 p 0) = ends m c (Order.rowAt (ends m c) p) := by
  rw [V_split]
  generalize hW : StableHlo.after (hostOps0.take 32) (fun b => m (c, b)) = W
  obtain ⟨ho, -, -, -, h4⟩ := first_part m c W hW
  simp only [hostOps0, List.drop]
  after_reads_at
  rw [h4]
  exact gather_e _ _ p _ (start_table _ _ ho _)

/-- The table that names a block's last end holds at least every end of the block. -/
theorem V_smax (c : Dev nD) (q : Fin 8) (r : Fin 64) :
    (ends m c (rowOf m c q r)).toInt ≤ (V m c main_call0_v61 (ix1 q) : BitVec 32).toInt := by
  rw [V_split]
  generalize hW : StableHlo.after (hostOps0.take 32) (fun b => m (c, b)) = W
  obtain ⟨ho, -, -, -, h4⟩ := first_part m c W hW
  simp only [hostOps0, List.drop]
  after_reads_at
  refine le_trans (le_of_eq ?_) (Order.le_fold_maxsi _ _ _ (Finset.mem_univ r))
  refine congrArg BitVec.toInt ?_
  refine Eq.trans ?_ (gather_e _ _ (rowIx q r) _ (start_table _ _ ho _)).symm
  rw [h4]; rfl

/-- The block's queries, rounded to the matrix unit's format. -/
theorem V_q (c : Dev nD) (q : Fin 8) (h : Fin 32) (r : Fin 64) (d : Fin 128) :
    V m c main_call0_v39 (ix4 q h r d) = FloatOps.truncf .bf16 bitsLt_bf16_f32 (m ((c : Thread nD τ).loc main_arg0) (ix3 (rowOf m c q r) h d)) := by
  rw [V_split]
  generalize hW : StableHlo.after (hostOps0.take 32) (fun b => m (c, b)) = W
  obtain ⟨ho, h0, -, -, -⟩ := first_part m c W hW
  simp only [hostOps0, List.drop]
  after_reads_at
  rw [h0]
  exact congrArg (FloatOps.truncf FTy.bf16 bitsLt_bf16_f32) (gather_q _ _ (rowIx q r) _ h d (start_table _ _ ho _))

/-- The block's weights, rounded to the matrix unit's format. -/
theorem V_w (c : Dev nD) (q : Fin 8) (h : Fin 32) (r : Fin 64) :
    V m c main_call0_v50 (ix4 q h r 0) = FloatOps.truncf .bf16 bitsLt_bf16_f32 (m ((c : Thread nD τ).loc main_arg2) (ix2 (rowOf m c q r) h)) := by
  rw [V_split]
  generalize hW : StableHlo.after (hostOps0.take 32) (fun b => m (c, b)) = W
  obtain ⟨ho, -, -, h2, -⟩ := first_part m c W hW
  simp only [hostOps0, List.drop]
  after_reads_at
  rw [h2]
  exact congrArg (FloatOps.truncf FTy.bf16 bitsLt_bf16_f32) (gather_w _ _ (rowIx q r) _ h (start_table _ _ ho _))

/-- The keys, rounded to the matrix unit's format. -/
theorem V_k (c : Dev nD) (t : Fin 8192) (d : Fin 128) :
    V m c main_call0_v51 (ix2 t d) = FloatOps.truncf .bf16 bitsLt_bf16_f32 (m ((c : Thread nD τ).loc main_arg1) (ix2 t d)) := by
  rw [V_split]
  generalize hW : StableHlo.after (hostOps0.take 32) (fun b => m (c, b)) = W
  obtain ⟨ho, -, h1, -, -⟩ := first_part m c W hW
  simp only [hostOps0, List.drop]
  after_reads_at
  rw [h1]

/-- The caller's arrays are as they were when the kernel starts. -/
theorem V_args (c : Dev nD) :
    V m c main_arg0 = m ((c : Thread nD τ).loc main_arg0) ∧ V m c main_arg1 = m ((c : Thread nD τ).loc main_arg1)
      ∧ V m c main_arg2 = m ((c : Thread nD τ).loc main_arg2) ∧ V m c main_arg3 = m ((c : Thread nD τ).loc main_arg3)
      ∧ V m c main_arg4 = m ((c : Thread nD τ).loc main_arg4) := by
  unfold V
  refine ⟨?_, ?_, ?_, ?_, ?_⟩
  all_goals after_reads_simp

end Cert.KernelIdeal.Hand

end
-- ==== Proof.Moves.lean ====
/-
  The body's own row copies: which elements each end names, what one copy delivers, and the three steps the body takes
  with them — read a row number off the table, start a copy, wait for one.
-/
module

public import proofs.«01_k».proof.Proof.Gen.KernelIdeal.Skeleton
public import proofs.«01_k».proof.Proof.Host
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

/-! ## The two ends of a copy -/

/-- The result array. -/
abbrev outM : Memref sig .tc .hbm S512x8192 .f32 := Memref.whole main_v0

/-- The scratch of finished rows: two halves of a block's rows. -/
abbrev stripM : Memref sig .tc .vmem S2x64x8192 .f32 := Memref.whole cc0_scratch1

/-- One row of the result, from `off`. -/
abbrev dstM (off : Fin 2 → Nat) (inb : ∀ a, off a + S1x8192.size a ≤ S512x8192.size a) : Memref sig .tc .hbm S1x8192 .f32 :=
  outM.slice (Rect.unit (s := S512x8192) off S1x8192.size inb) (fun _ => rfl)

/-- One finished row, from `off`. -/
abbrev srcM (off : Fin 3 → Nat) (inb : ∀ a, off a + S1x1x8192.size a ≤ S2x64x8192.size a) : Memref sig .tc .vmem S1x8192 .f32 :=
  (stripM.slice (Rect.unit (s := S2x64x8192) off S1x1x8192.size inb) (fun _ => rfl)).squeeze S1x8192 squeezes_S1x1x8192_S1x8192

/-- One of the two counters, from `off`. -/
abbrev semM (off : Fin 1 → Nat) (inb : ∀ a, off a + S1.size a ≤ S2.size a) : DmaSems sig S_ :=
  (cc0_scratch2.slice (Rect.unit (s := S2) off S1.size inb)).squeeze S_ squeezes_S1_S_

/-- The elements of one row of the result. -/
def outRow (r : Fin 512) : Finset S512x8192.Idx := Finset.univ.filter fun x => (x 0).val = r.val

/-- The elements of one finished row. -/
def stripRow (b : Fin 2) (r : Fin 64) : Finset S2x64x8192.Idx := Finset.univ.filter fun x => (x 0).val = b.val ∧ (x 1).val = r.val

theorem mem_outRow {r : Fin 512} {x : S512x8192.Idx} : x ∈ outRow r ↔ (x 0).val = r.val := by simp [outRow]

theorem mem_stripRow {b : Fin 2} {r : Fin 64} {x : S2x64x8192.Idx} : x ∈ stripRow b r ↔ (x 0).val = b.val ∧ (x 1).val = r.val := by
  simp [stripRow]

/-- The elements a copy writes. -/
theorem dst_set {off : Fin 2 → Nat} {inb} {r : Fin 512} (h : off = ![r.val, 0]) : (dstM off inb).view.set = outRow r := by
  subst h
  ext x
  show x ∈ ((View.whole main_v0).slice _).set ↔ _
  rw [View.set_slice_whole, Rect.mem_set_unit, mem_outRow]
  constructor
  · intro hx
    have h0 := hx 0
    simp [S1x8192] at h0
    omega
  · intro hx a
    have hl : (x 1).val < 8192 := (x 1).isLt
    fin_cases a
    · simp [S1x8192, ← hx]
    · exact ⟨Nat.zero_le _, by simpa [S1x8192] using hl⟩

/-- The elements a copy reads. -/
theorem src_set {off : Fin 3 → Nat} {inb} {b : Fin 2} {r : Fin 64} (h : off = ![b.val, r.val, 0]) : (srcM off inb).view.set = stripRow b r := by
  subst h
  rw [Memref.set_view_squeeze]
  ext x
  show x ∈ ((View.whole cc0_scratch1).slice _).set ↔ _
  rw [View.set_slice_whole, Rect.mem_set_unit, mem_stripRow]
  constructor
  · intro hx
    have h0 := hx 0
    have h1 := hx 1
    simp [S1x1x8192] at h0 h1
    exact ⟨by omega, by omega⟩
  · rintro ⟨hx, hy⟩ a
    have hl : (x 2).val < 8192 := (x 2).isLt
    fin_cases a
    · simp [S1x1x8192, ← hx]
    · simp [S1x1x8192, ← hy]
    · exact ⟨Nat.zero_le _, hl⟩

/-- Where a copy's elements land. -/
theorem dst_emb {off : Fin 2 → Nat} {inb} {r : Fin 512} (h : off = ![r.val, 0]) (t : Fin 8192) :
    (dstM off inb).view.emb (ix2 0 t) = (ix2 r t : S512x8192.Idx) := by
  subst h
  funext a
  fin_cases a
  · exact Fin.ext (by show r.val + 1 * 0 = r.val; omega)
  · exact Fin.ext (by show 0 + 1 * t.val = t.val; omega)

/-- Where a copy's elements come from. -/
theorem src_emb {off : Fin 3 → Nat} {inb} {b : Fin 2} {r : Fin 64} (h : off = ![b.val, r.val, 0]) (t : Fin 8192) :
    (srcM off inb).view.emb (ix2 0 t) = (ix3 b r t : S2x64x8192.Idx) := by
  subst h
  refine (congrArg (stripM.slice (Rect.unit (s := S2x64x8192) ![b.val, r.val, 0] S1x1x8192.size inb) (fun _ => rfl)).view.emb
    (ValueIdx.reshapeEquiv_ix2_1ab (a := 1) (b := 8192) (by decide) 0 t)).trans ?_
  funext a
  fin_cases a
  · exact Fin.ext (by show b.val + 1 * 0 = b.val; omega)
  · exact Fin.ext (by show r.val + 1 * 0 = r.val; omega)
  · exact Fin.ext (by show 0 + 1 * t.val = t.val; omega)

/-! ## What a copy delivers -/

variable (m : (ℓ : Loc nD τ sig) → Buf (Elt F) ℓ)

/-- The weakest precondition of a piece of the body. -/
def Wp {β : Type} (c : Dev nD) (p : Prog (TpuEff nD τ sig (Elt F) Λ₀ .tc) β) (Q : β → sProp 𝕄) : sProp 𝕄 :=
  wp frame (wpE (defs₀ (F := F)) Variants.none (c : Thread nD τ) none) Set.univ p Q

/-- The half of the scratch a block uses. -/
def half (q : Fin 8) : Fin 2 := ⟨q.val % 2, Nat.mod_lt _ (by decide)⟩

/-- The counter of a half. -/
def cell (b : Fin 2) : DmaSem sig := ![7, 8] b

/-- The counter an offset names. -/
theorem sem_cell {off : Fin 1 → Nat} {inb} {b : Fin 2} (h : off = ![b.val]) : (semM off inb).sem = cell b := by
  subst h
  match b with
  | 0 => exact (by decide +kernel : (semM ![0] inb_S2_S1_0).sem = cell 0)
  | 1 => exact (by decide +kernel : (semM ![1] inb_S2_S1_1).sem = cell 1)

/-- What one copied row adds to its counter. -/
def rowN : ℕ := (dstM ![0, 0] inb_S512x8192_S1x8192_0_0).view.dmaCredit

theorem rowN_pos : 0 < rowN := View.dmaCredit_pos _ (by decide)

/-- A copy's delivery: its row of the result at the final contents, and its finished row back. -/
def Deliv (c : Dev nD) (q : Fin 8) (G : Buf (Elt F) ((c : Thread nD τ).loc main_v0)) (r : Fin 64) : sProp 𝕄 :=
  iprop(((c : Thread nD τ).loc main_v0 ↦[outRow (rowOf m c q r)]{fullShare} G)
    ∗ ∃ f, ((c : Thread nD τ).loc cc0_scratch1 ↦[stripRow (half q) r]{fullShare} f))

instance deliv_storable (c : Dev nD) (q : Fin 8) (G : Buf (Elt F) ((c : Thread nD τ).loc main_v0)) (r : Fin 64) :
    BI.Storable (upEmb : UEmb _ 𝕄) (Deliv m c q G r) := by
  unfold Deliv; infer_instance

/-- A block's copies on their counter: `j` started, `u` units taken off by waits. -/
abbrev Flight (c : Dev nD) (q : Fin 8) (G : Buf (Elt F) ((c : Thread nD τ).loc main_v0)) (j u : ℕ) : sProp 𝕄 :=
  Batch (countersEmb (U := Pipeline.UD sig nD τ)) (c : Thread nD τ) (.dma (cell (half q))) () rowN (Deliv m c q G) j u

/-- Flushing a block, `k` copies started: the table of rows, the two ends of the copies still to start, those
    started, and whatever else is held. -/
def Flush (c : Dev nD) (q : Fin 8) (f : Buf (Elt F) ((c : Thread nD τ).loc cc0_scratch1))
    (G : Buf (Elt F) ((c : Thread nD τ).loc main_v0)) (R : sProp 𝕄) (k : ℕ) : sProp 𝕄 :=
  iprop(((c : Thread nD τ).loc main_call0_v29 ↦{fullShare.right} V m c main_call0_v29)
    ∗ bigSep (pending k) (fun x : Fin 64 => iprop(((c : Thread nD τ).loc cc0_scratch1 ↦[stripRow (half q) x]{fullShare} f)
        ∗ ((c : Thread nD τ).loc main_v0 ↦[outRow (rowOf m c q x)]{fullShare} V m c main_v0)))
    ∗ Flight m c q G k 0 ∗ R)

/-- The word of the table for a block's row. -/
def word (c : Dev nD) (q : Fin 8) (r : Fin 64) : BitVec 32 := BitVec.ofNat 32 (rowOf m c q r).val

theorem word_toNat (c : Dev nD) (q : Fin 8) (r : Fin 64) : (word m c q r).toNat = (rowOf m c q r).val := by
  have h := (rowOf m c q r).isLt
  unfold word
  rw [BitVec.toNat_ofNat]
  exact Nat.mod_eq_of_lt (by omega)

theorem word_lt (c : Dev nD) (q : Fin 8) (r : Fin 64) : (word m c q r).toNat < 512 := by
  rw [word_toNat]; exact (rowOf m c q r).isLt

/-- A row number below the row count names a row of the result. -/
theorem row_fits {v : BitVec 32} (hv : v.toNat < 512) : ∀ a, (![v.toNat, 0] : Fin 2 → Nat) a + S1x8192.size a ≤ S512x8192.size a := by
  intro a
  fin_cases a
  · exact hv
  · exact le_rfl

/-! ## The three steps -/

/-- One word of the table of rows, read. -/
theorem table_read {c : Dev nD} {q : Fin 8} (r : Fin 64) {off : Fin 1 → Nat} {inb : ∀ a, off a + S1.size a ≤ S512.size a}
    (ho : off = ![64 * q.val + r.val]) (x : (Rect.unit (s := S512) off S1.size inb).shape.Idx) :
    ((Memref.whole main_call0_v29).access (Rect.unit (s := S512) off S1.size inb)).read (Elt F) (V m c main_call0_v29) x = word m c q r := by
  subst ho
  refine (congrArg (V m c main_call0_v29) (?_ : _ = (ix1 (rowIx q r) : S512.Idx))).trans (V_order m c (rowIx q r))
  funext a
  obtain rfl : a = (0 : Fin 1) := Subsingleton.elim (α := Fin 1) _ _
  refine Fin.ext ?_
  have hx : (x 0).val < 1 := (x 0).isLt
  show 64 * q.val + r.val + 1 * (x 0).val = q.val * 64 + r.val
  omega

/-- A row number read off the table: the rest of the body continues with the block's row. -/
theorem load_step {c : Dev nD} {q : Fin 8} {f G} {R : sProp 𝕄} {k : ℕ} (hk : k < 64) {β : Type} {off : Fin 1 → Nat} {inb} {h1} {hp}
    {K : Elt F .i32 → Prog (TpuEff nD τ sig (Elt F) Λ₀ .tc) β} {Q : β → sProp 𝕄} (ho : off = ![64 * q.val + k])
    (h : Flush m c q f G R k ⊢ Wp c (K (word m c q ⟨k, hk⟩)) Q) :
    Flush m c q f G R k ⊢ Wp c (smemLoad (Memref.whole main_call0_v29) (Rect.unit (s := S512) off S1.size inb) h1 hp >>= K) Q := by
  have H : ((c : Thread nD τ).loc main_call0_v29 ↦{fullShare.right} V m c main_call0_v29)
      ⊢ iprop((((c : Thread nD τ).loc main_call0_v29 ↦{fullShare.right} V m c main_call0_v29) -∗ Wp c (K (word m c q ⟨k, hk⟩)) Q)
        -∗ Wp c (smemLoad (Memref.whole main_call0_v29) (Rect.unit (s := S512) off S1.size inb) h1 hp >>= K) Q) := by
    have H := wp_smemLoadElt (defs := defs₀ (F := F)) (Q := Q) (Γ := PendingWaitsCtx.empty) Variants.none (c : Thread nD τ) none Set.univ (m := Memref.whole main_call0_v29)
      (r := Rect.unit (s := S512) off S1.size inb) (hw := View.loads_smem_one hp h1) (x := Shape.Idx.first (h1.symm ▸ Nat.one_pos)) (k := K)
      (S := Finset.univ) (q := fullShare.right) (f := V m c main_call0_v29) (Finset.subset_univ _)
    rw [table_read m ⟨k, hk⟩ ho] at H
    exact H
  unfold Flush at h ⊢
  iintro ⟨HT, HF⟩
  iapply H $$ HT
  iintro HT
  iapply h
  isplitl [HT]; · iexact HT
  iexact HF

/-- A check that holds: the body continues with its proof. -/
theorem assume_step {c : Dev nD} {P : sProp 𝕄} {β : Type} {p : Prop} {d : Decidable p}
    {K : PLift p → Prog (TpuEff nD τ sig (Elt F) Λ₀ .tc) β} {Q : β → sProp 𝕄} (hp : p) (h : P ⊢ Wp c (K ⟨hp⟩) Q) :
    P ⊢ Wp c (Prog.lift (TpuEff.assume p d) >>= K) Q :=
  h.trans (wp_assume Variants.none (c : Thread nD τ) none Set.univ (k := K) hp)

/-- What a started copy leaves is the copy's delivery. -/
theorem landed {c : Dev nD} {q : Fin 8} {f : Buf (Elt F) ((c : Thread nD τ).loc cc0_scratch1)} {G : Buf (Elt F) ((c : Thread nD τ).loc main_v0)}
    {r : Fin 64} {soff : Fin 3 → Nat} {doff : Fin 2 → Nat} {i1 i2}
    (hs : soff = ![(half q).val, r.val, 0]) (hd : doff = ![(rowOf m c q r).val, 0])
    (hf : ∀ (t : Fin 8192), f (ix3 (half q) r t : S2x64x8192.Idx) = G (ix2 (rowOf m c q r) t : S512x8192.Idx)) :
    iprop((((dstM doff i2).view.loc (c : Thread nD τ)) ↦[outRow (rowOf m c q r)]{fullShare}
        ((dstM doff i2).view.write (Elt F) (V m c main_v0) (ReadAs.same.apply ((srcM soff i1).view.read (Elt F) f)) Finset.univ))
      ∗ (((srcM soff i1).view.loc (c : Thread nD τ)) ↦[(srcM soff i1).view.set]{fullShare} f)) ⊢ Deliv m c q G r := by
  unfold Deliv
  rw [src_set hs]
  iintro ⟨HD, HS⟩
  isplitl [HD]
  · have key : ∀ t : Fin 8192, ((dstM doff i2).view.write (Elt F) (V m c main_v0) (ReadAs.same.apply ((srcM soff i1).view.read (Elt F) f)) Finset.univ)
        (ix2 (rowOf m c q r) t : S512x8192.Idx) = G (ix2 (rowOf m c q r) t : S512x8192.Idx) := by
      intro t
      have e1 := View.write_emb_of_mem (v := (dstM doff i2).view) (V m c main_v0) (ReadAs.same.apply ((srcM soff i1).view.read (Elt F) f)) (Finset.mem_univ (ix2 0 t))
      rw [dst_emb hd] at e1
      refine e1.trans (Eq.trans ?_ (hf t))
      exact congrArg f (src_emb hs t)
    have e : ∀ x ∈ outRow (rowOf m c q r), ((dstM doff i2).view.write (Elt F) (V m c main_v0) (ReadAs.same.apply ((srcM soff i1).view.read (Elt F) f)) Finset.univ) x = G x := by
      intro x hx
      have hx' : x = ix2 (rowOf m c q r) (x 1 : Fin 8192) := by
        funext a
        fin_cases a
        · exact Fin.ext (mem_outRow.1 hx)
        · rfl
      rw [hx']
      exact key _
    have e' : ((c : Thread nD τ).loc main_v0 ↦[outRow (rowOf m c q r)]{fullShare}
        ((dstM doff i2).view.write (Elt F) (V m c main_v0) (ReadAs.same.apply ((srcM soff i1).view.read (Elt F) f)) Finset.univ) : sProp 𝕄)
        = ((c : Thread nD τ).loc main_v0 ↦[outRow (rowOf m c q r)]{fullShare} G) := pointsTo_congr e
    rw [← e']
    iexact HD
  · iexists f
    iexact HS

/-- A copy started: its two ends go, and it joins the block's copies. -/
theorem send_step {c : Dev nD} {q : Fin 8} {f G} {R : sProp 𝕄} {k : ℕ} (hk : k < 64) {β : Type} {soff : Fin 3 → Nat} {doff : Fin 2 → Nat} {eoff : Fin 1 → Nat}
    {i1 i2 i3} {h1 h2 h3} {K : PUnit → Prog (TpuEff nD τ sig (Elt F) Λ₀ .tc) β} {Q : β → sProp 𝕄}
    (hs : soff = ![(half q).val, k, 0]) (hd : doff = ![(word m c q ⟨k, hk⟩).toNat, 0]) (he : eoff = ![(half q).val])
    (hf : ∀ (r : Fin 64) (t : Fin 8192), f (ix3 (half q) r t : S2x64x8192.Idx) = G (ix2 (rowOf m c q r) t : S512x8192.Idx))
    (h : Flush m c q f G R (k + 1) ⊢ Wp c (K ⟨⟩) Q) :
    Flush m c q f G R k ⊢ Wp c (Prog.lift (.enqueueDma (srcM soff i1) (.here (dstM doff i2)) (.dma (semM eoff i3).sem) h1 h2 h3) >>= K) Q := by
  rw [word_toNat] at hd
  have H := wp_dmaBatch (countersEmb (U := Pipeline.UD sig nD τ)) (defs := defs₀ (F := F)) (Q := Q) (Lvl := ℕ) Variants.none (c : Thread nD τ) none (src := srcM soff i1) (dst := dstM doff i2)
    (via := .same) (sm := .dma (semM eoff i3).sem) (hsrc := h1) (hdst := h2) (hsem := h3) (k := K) (q := fullShare) (fs := f)
    (Sd := outRow (rowOf m c q ⟨k, hk⟩)) (fd := V m c main_v0) (D := Deliv m c q G) (j := k) (u := 0) () rowN rfl (dst_set hd).le hk (Nat.zero_le _)
    (landed m hs hd (hf _))
  rw [src_set (b := half q) (r := ⟨k, hk⟩) hs] at H
  have H' : iprop(((c : Thread nD τ).loc cc0_scratch1 ↦[stripRow (half q) ⟨k, hk⟩]{fullShare} f)
      ∗ ((c : Thread nD τ).loc main_v0 ↦[outRow (rowOf m c q ⟨k, hk⟩)]{fullShare} V m c main_v0) ∗ Flight m c q G k 0)
      ⊢ iprop((Flight m c q G (k + 1) 0 -∗ Wp c (K ⟨⟩) Q) -∗ Wp c (Prog.lift (.enqueueDma (srcM soff i1) (.here (dstM doff i2)) (.dma (semM eoff i3).sem) h1 h2 h3) >>= K) Q) := by
    unfold Flight
    rw [← sem_cell (inb := i3) he]
    exact H
  unfold Flush at h ⊢
  rw [bigSep_pending_step _ k hk]
  iintro ⟨HT, ⟨⟨HS, HD⟩, HP⟩, HB, HR⟩
  iapply H' $$ [HS HD HB]
  · isplitl [HS]; · iexact HS
    isplitl [HD]; · iexact HD
    iexact HB
  iintro HB
  iapply h
  isplitl [HT]; · iexact HT
  isplitl [HP]; · iexact HP
  isplitl [HB]; · iexact HB
  iexact HR

/-- One wait of a block's drain. -/
theorem wait_step {c : Dev nD} {q : Fin 8} {G} {j : ℕ} {R : sProp 𝕄} (hj : j < 64) {β : Type} {eoff : Fin 1 → Nat} {sp'} {s' : Shape} {e' : EltTy}
    {src : Memref sig .tc sp' s' e'} {i2 i3} {h1 h2} {K : PUnit → Prog (TpuEff nD τ sig (Elt F) Λ₀ .tc) β} {Q : β → sProp 𝕄}
    (he : eoff = ![(half q).val])
    (h : iprop(Flight m c q G 64 (rowN * (j + 1)) ∗ (∃ W, owes (c : Thread nD τ) 0 W) ∗ R) ⊢ Wp c (K ⟨⟩) Q) :
    iprop(Flight m c q G 64 (rowN * j) ∗ (∃ W, owes (c : Thread nD τ) 0 W) ∗ R)
      ⊢ Wp c (Prog.lift (.waitDma2 (semM eoff i3).sem src (dstM ![0, 0] i2) h1 h2) >>= K) Q := by
  have hu : rowN * j + 1 * rowN ≤ rowN * 64 := by
    rw [Nat.one_mul, ← Nat.mul_succ]; exact Nat.mul_le_mul_left _ hj
  iintro ⟨HB, ⟨%W, HW⟩, HR⟩
  have H := wp_waitBatchMul (countersEmb (U := Pipeline.UD sig nD τ)) (defs := defs₀ (F := F)) (Q := Q) (Lvl := ℕ) Variants.none (c : Thread nD τ) none (sem := (semM eoff i3).sem)
    (srcw := src) (dstw := dstM ![0, 0] i2) (hsrc := h1) (hdst := h2) (k := K) () (N := rowN) 1 (Nat.one_mul _).symm (D := Deliv m c q G) (j := 64) (u := rowN * j) hu (W := W)
  rw [Nat.one_mul, ← Nat.mul_succ] at H
  have H' : iprop(Flight m c q G 64 (rowN * j) ∗ owes (c : Thread nD τ) 0 W)
      ⊢ iprop((iprop(Flight m c q G 64 (rowN * (j + 1)) ∗ owes (c : Thread nD τ) 0 (insert (SemLoc.dma (cell (half q)), ()) W)) -∗ Wp c (K ⟨⟩) Q)
        -∗ Wp c (Prog.lift (.waitDma2 (semM eoff i3).sem src (dstM ![0, 0] i2) h1 h2) >>= K) Q) := by
    unfold Flight
    rw [← sem_cell (inb := i3) he]
    exact H
  iapply H' $$ [HB HW]
  · isplitl [HB]; · iexact HB
    iexact HW
  iintro ⟨HB, HW⟩
  iapply h
  isplitl [HB]; · iexact HB
  isplitl [HW]; · iexists _; iexact HW
  iexact HR

end Cert.KernelIdeal.Hand
-- ==== Proof.Compute.lean ====
/-
  The computing part of the body at one grid point: what it holds while the block's finished rows are written chunk by
  chunk, and the steps it takes.
-/
module

public import proofs.«01_k».proof.Proof.Moves
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

/-! ## Moving through a printed piece -/

/-- A piece returning a value. -/
theorem ret_step {c : Dev nD} {P : sProp 𝕄} {β : Type} {x : β} {Q : β → sProp 𝕄} (h : P ⊢ Q x) :
    P ⊢ Wp c (Pure.pure x) Q := h.trans fupd_intro

/-- A named piece followed by the rest: the piece, with the rest as its postcondition. -/
theorem part_step {c : Dev nD} {P : sProp 𝕄} {γ β : Type} {p : Prog (TpuEff nD τ sig (Elt F) Λ₀ .tc) γ}
    {K : γ → Prog (TpuEff nD τ sig (Elt F) Λ₀ .tc) β} {Q : β → sProp 𝕄} (h : P ⊢ Wp c p fun a => Wp c (K a) Q) :
    P ⊢ Wp c (p >>= K) Q := by
  unfold Wp at h ⊢
  rw [wp_bind]
  exact h

/-- A conditional whose branches both come to one state before what follows. -/
theorem dif_step {c : Dev nD} {P : sProp 𝕄} {β : Type} {cnd : Prop} {dc : Decidable cnd} {A : cnd → Prog (TpuEff nD τ sig (Elt F) Λ₀ .tc) β}
    {B : ¬ cnd → Prog (TpuEff nD τ sig (Elt F) Λ₀ .tc) β} {J : Prog (TpuEff nD τ sig (Elt F) Λ₀ .tc) β} {Q : β → sProp 𝕄} (Mid : sProp 𝕄)
    (hB : ∀ h, B h = J) (hJ : Mid ⊢ Wp c J Q) (h1 : ∀ h, (Mid ⊢ Wp c J Q) → P ⊢ Wp c (A h) Q) (h2 : ¬ cnd → P ⊢ Mid) :
    P ⊢ Wp c (if h : cnd then A h else B h) Q := by
  by_cases h : cnd
  · rw [dif_pos h]; exact h1 h hJ
  · rw [dif_neg h, hB h]; exact (h2 h).trans hJ

/-- Resources updated before the rest of a piece. -/
theorem upd_step {c : Dev nD} {P P' : sProp 𝕄} {β : Type} {p : Prog (TpuEff nD τ sig (Elt F) Λ₀ .tc) β} {Q : β → sProp 𝕄}
    (hu : P ⊢ (|={Set.univ}=> P' : sProp 𝕄)) (h : P' ⊢ Wp c p Q) : P ⊢ Wp c p Q := by
  unfold Wp at h ⊢
  refine hu.trans ?_
  iintro HP
  imod HP
  iapply h
  iexact HP

/-- A load through a held memref. -/
theorem owns_load {c : Dev nD} {s : Shape} {e : EltTy} {a : Memref sig .tc .vmem s e} {X : s.Idx → Elt F e} {r : Rect s} {hl : a.view.LoadsAt r.toLoadRect}
    {β : Type} {K : (r.shape.Idx → Elt F e) → Prog (TpuEff nD τ sig (Elt F) Λ₀ .tc) β} {Q : β → sProp 𝕄}
    {X' : r.shape.Idx → Elt F e} (hX : (fun x => X (r.emb x)) = X') :
    (owns (c : Thread nD τ) a fullShare X : sProp 𝕄)
      ⊢ iprop((owns (c : Thread nD τ) a fullShare X -∗ Wp c (K X') Q) -∗ Wp c (Prog.lift (.load a r.toLoadRect hl) >>= K) Q) := by
  unfold owns
  iintro ⟨%f, %hf, H⟩ Hk
  have H := wp_load_rect (defs := defs₀ (F := F)) (Q := Q) (Γ := PendingWaitsCtx.empty) Variants.none (c : Thread nD τ) none Set.univ (m := a) (r := r)
    (hl := hl) (k := K) (S := a.view.set) (q := fullShare) (f := f) (View.set_slice_subset a.view r)
  have e : (a.access r).read (Elt F) f = X' := by rw [← hX, ← hf]; rfl
  rw [e] at H
  have H' : (a.view.loc (c : Thread nD τ) ↦[a.view.set]{fullShare} f : sProp 𝕄)
      ⊢ iprop(((a.view.loc (c : Thread nD τ) ↦[a.view.set]{fullShare} f) -∗ Wp c (K X') Q) -∗ Wp c (Prog.lift (.load a r.toLoadRect hl) >>= K) Q) := H
  iapply H' $$ H
  iintro H
  iapply Hk
  iexists f
  isplitr
  · ipureintro; exact hf
  iexact H

/-- A store over the whole of a held memref. -/
theorem owns_put {c : Dev nD} {s : Shape} {e : EltTy} {a : Memref sig .tc .vmem s e} {X : s.Idx → Elt F e} {off : Fin s.rank → ℕ}
    {inb : ∀ x, off x + s.size x ≤ s.size x} {w : s.Idx → Elt F e} {hx} {hm}
    {β : Type} {K : PUnit → Prog (TpuEff nD τ sig (Elt F) Λ₀ .tc) β} {Q : β → sProp 𝕄} :
    (owns (c : Thread nD τ) a fullShare X : sProp 𝕄)
      ⊢ iprop((owns (c : Thread nD τ) a fullShare w -∗ Wp c (K ⟨⟩) Q) -∗ Wp c (Prog.lift (.store a (Rect.unit off s.size inb) w Finset.univ hx hm) >>= K) Q) := by
  unfold owns
  iintro ⟨%f, -, H⟩ Hk
  have H := wp_store (defs := defs₀ (F := F)) (Q := Q) (Γ := PendingWaitsCtx.empty) Variants.none (c : Thread nD τ) none Set.univ (m := a)
    (r := Rect.unit off s.size inb) (w := w) (Mk := Finset.univ) (hx := hx) (hm := hm) (k := K)
    (S := a.view.set) (f := f) (View.set_slice_subset a.view _)
  have e : a.view.read (Elt F) ((a.access (Rect.unit off s.size inb)).write (Elt F) f w Finset.univ) = w :=
    View.read_writes_full a.view f inb w []
  have H' : (a.view.loc (c : Thread nD τ) ↦[a.view.set]{fullShare} f : sProp 𝕄)
      ⊢ iprop(((a.view.loc (c : Thread nD τ) ↦[a.view.set]{fullShare} ((a.access (Rect.unit off s.size inb)).write (Elt F) f w Finset.univ)) -∗ Wp c (K ⟨⟩) Q)
        -∗ Wp c (Prog.lift (.store a (Rect.unit off s.size inb) w Finset.univ hx hm) >>= K) Q) := H
  iapply H' $$ H
  iintro H
  iapply Hk
  iexists _
  isplitr
  · ipureintro; exact e
  iexact H

/-! ## One chunk's values -/

/-- A chunk of scores from the position `t0`: the relu'd products summed over heads where the position is before the
    row's end, minus infinity elsewhere. -/
def score (t0 : BitVec 32) (e : Vec F S64x1 .i32) (qw : Vec F S2048x128 .bf16) (k : Vec F S2048x128 .bf16) : FVec F S1x64x2048 .f32 :=
  shapeCast S1x64x2048
    (select (cmpi .slt (addi (broadcast S64x2048 t0) (iota .tc S64x2048 32 [1] iota_S64x2048_d1_w32))
        (broadcastTo S64x2048 (shapeCast S64x1 e shapeCasts_S64x1_S64x1 : IVec S64x1 32) broadcasts_S64x1_S64x2048))
      (multiReduction .add [0] S64x2048
        (shapeCast S32x64x2048
          (maximumf (matmul dot_S2048x128_S2048x128_S2048x2048_1_1_0_0_n_n none qw (shapeCast S2048x128 k shapeCasts_S2048x128_S2048x128 : FVec F S2048x128 .bf16)
            (constant S2048x2048 .f32 0x00000000#32)) (broadcast S2048x2048 (Scalar.ofBits .f32 0x00000000#32 : F .f32)) : FVec F S2048x2048 .f32)
          shapeCasts_S2048x2048_S32x64x2048)
        0x00000000#32 reduces_S32x64x2048_S64x2048 (.inl rfl) rfl : FVec F S64x2048 .f32)
      (broadcast S64x2048 (Scalar.ofBits .f32 0xFF800000#32 : F .f32)))
    shapeCasts_S64x2048_S1x64x2048

/-- The keys of one chunk. -/
def keysOf (X : Vec F S8192x128 .bf16) (k : Fin 4) : Vec F S2048x128 .bf16 := fun x =>
  X (ix2 (⟨2048 * k.val + (x 0).val, by have h : (x 0).val < 2048 := (x 0).isLt; omega⟩ : Fin 8192) (x 1 : Fin 128))

/-- What the body stores for a chunk: the scores when the chunk starts before the block's last end, minus infinity
    otherwise. -/
def chunk (s : BitVec 32) (e : Vec F S64x1 .i32) (qw : Vec F S2048x128 .bf16) (K : Vec F S8192x128 .bf16) (k : Fin 4) : FVec F S1x64x2048 .f32 :=
  if ((2048 * k.val : ℕ) : ℤ) < s.toInt then score (BitVec.ofNat 32 (2048 * k.val)) e qw (keysOf K k) else k0_pay1

/-- A block's finished rows. -/
def finished (s : BitVec 32) (e : Vec F S64x1 .i32) (qw : Vec F S2048x128 .bf16) (K : Vec F S8192x128 .bf16) (r : Fin 64) (t : Fin 8192) : Elt F .f32 :=
  chunk s e qw K ⟨t.val / 2048, by omega⟩ (ix3 (0 : Fin 1) r (⟨t.val % 2048, Nat.mod_lt _ (by decide)⟩ : Fin 2048))

/-- A widened bit differs from zero when it is set. -/
theorem extui_ne (b : BitVec 1) : Scalar.cmpi .ne (Scalar.extui b : BitVec 32) 0#32 = 1#1 ↔ b = 1#1 := by
  revert b
  decide

/-- The signed comparison the body branches on, before a chunk. -/
theorem slt_iff {t v : BitVec 32} (k : Fin 4) (ht : t = BitVec.ofNat 32 (2048 * k.val)) :
    Scalar.cmpi .ne (Scalar.extui (Scalar.cmpi .slt t v) : BitVec 32) 0#32 = 1#1 ↔ ((2048 * k.val : ℕ) : ℤ) < v.toInt := by
  have hk := k.isLt
  rw [extui_ne, ← WordCmp.toInt_ofNat_of_lt (w := 32) (a := 2048 * k.val) (by norm_num; omega), ht]
  exact WordCmp.ofBool_decide_eq_one_iff _

/-- The comparison the body branches on, after a chunk. -/
theorem sge_iff {t v : BitVec 32} (k : Fin 4) (ht : t = BitVec.ofNat 32 (2048 * k.val)) :
    Scalar.cmpi .ne (Scalar.extui (Scalar.cmpi .sge t v) : BitVec 32) 0#32 = 1#1 ↔ ¬ ((2048 * k.val : ℕ) : ℤ) < v.toInt := by
  have hk := k.isLt
  rw [extui_ne, ← WordCmp.toInt_ofNat_of_lt (w := 32) (a := 2048 * k.val) (by norm_num; omega), ht, not_lt]
  exact WordCmp.ofBool_decide_eq_one_iff _

variable (m : (ℓ : Loc nD τ sig) → Buf (Elt F) ℓ)

/-- The elements of one half of the scratch. -/
def halfSet (b : Fin 2) : Finset S2x64x8192.Idx := Finset.univ.filter fun x => (x 0).val = b.val

theorem mem_halfSet {b : Fin 2} {x : S2x64x8192.Idx} : x ∈ halfSet b ↔ (x 0).val = b.val := by simp [halfSet]

/-- The last end of a block, as the kernel reads it. -/
def lastEnd (c : Dev nD) (q : Fin 8) : BitVec 32 := V m c main_call0_v61 (ix1 q)

/-- What the computing part holds: the table of last ends, the four staged blocks, the products, the half being written,
    and whatever else is held. -/
def Comp (c : Dev nD) (q : Fin 8) (a4 : Memref sig .tc .vmem S1x32x64x128 .bf16) (a5 : Memref sig .tc .vmem S1x32x64x1 .bf16)
    (a6 : Memref sig .tc .vmem S8192x128 .bf16) (a7 : Memref sig .tc .vmem S64x1 .i32) (X4 : Vec F S1x32x64x128 .bf16) (X5 : Vec F S1x32x64x1 .bf16)
    (X6 : Vec F S8192x128 .bf16) (X7 : Vec F S64x1 .i32) (Y : Vec F S2048x128 .bf16) (R : sProp 𝕄) (f : Buf (Elt F) ((c : Thread nD τ).loc cc0_scratch1)) : sProp 𝕄 :=
  iprop(((c : Thread nD τ).loc main_call0_v61 ↦{fullShare.right} V m c main_call0_v61) ∗ owns (c : Thread nD τ) a4 fullShare X4
    ∗ owns (c : Thread nD τ) a5 fullShare X5 ∗ owns (c : Thread nD τ) a6 fullShare X6 ∗ owns (c : Thread nD τ) a7 fullShare X7
    ∗ owns (c : Thread nD τ) (Memref.whole cc0_scratch0) fullShare Y
    ∗ ((c : Thread nD τ).loc cc0_scratch1 ↦[halfSet (half q)]{fullShare} f) ∗ R)

variable {c : Dev nD} {q : Fin 8} {a4 : Memref sig .tc .vmem S1x32x64x128 .bf16} {a5 : Memref sig .tc .vmem S1x32x64x1 .bf16}
    {a6 : Memref sig .tc .vmem S8192x128 .bf16} {a7 : Memref sig .tc .vmem S64x1 .i32} {X4 : Vec F S1x32x64x128 .bf16} {X5 : Vec F S1x32x64x1 .bf16}
    {X6 : Vec F S8192x128 .bf16} {X7 : Vec F S64x1 .i32} {Y : Vec F S2048x128 .bf16} {f : Buf (Elt F) ((c : Thread nD τ).loc cc0_scratch1)}
    {β : Type}

/-- The block's last end, read off its table. -/
theorem comp_end {R : sProp 𝕄} {Q : β → sProp 𝕄} {off : Fin 1 → Nat} {inb} {h1} {hp} {K : Elt F .i32 → Prog (TpuEff nD τ sig (Elt F) Λ₀ .tc) β} (ho : off = ![q.val])
    (h : Comp m c q a4 a5 a6 a7 X4 X5 X6 X7 Y R f ⊢ Wp c (K (lastEnd m c q)) Q) :
    Comp m c q a4 a5 a6 a7 X4 X5 X6 X7 Y R f ⊢ Wp c (smemLoad (Memref.whole main_call0_v61) (Rect.unit (s := S8) off S1.size inb) h1 hp >>= K) Q := by
  subst ho
  have e : ∀ x, ((Memref.whole main_call0_v61).access (Rect.unit (s := S8) ![q.val] S1.size inb)).read (Elt F) (V m c main_call0_v61) x = lastEnd m c q := by
    intro x
    refine congrArg (V m c main_call0_v61) (?_ : _ = (ix1 q : S8.Idx))
    funext a
    obtain rfl : a = (0 : Fin 1) := Subsingleton.elim (α := Fin 1) _ _
    refine Fin.ext ?_
    have hx : (x 0).val < 1 := (x 0).isLt
    show q.val + 1 * (x 0).val = q.val
    omega
  have H : ((c : Thread nD τ).loc main_call0_v61 ↦{fullShare.right} V m c main_call0_v61)
      ⊢ iprop((((c : Thread nD τ).loc main_call0_v61 ↦{fullShare.right} V m c main_call0_v61) -∗ Wp c (K (lastEnd m c q)) Q)
        -∗ Wp c (smemLoad (Memref.whole main_call0_v61) (Rect.unit (s := S8) ![q.val] S1.size inb) h1 hp >>= K) Q) := by
    have H := wp_smemLoadElt (defs := defs₀ (F := F)) (Q := Q) (Γ := PendingWaitsCtx.empty) Variants.none (c : Thread nD τ) none Set.univ (m := Memref.whole main_call0_v61)
      (r := Rect.unit (s := S8) ![q.val] S1.size inb) (hw := View.loads_smem_one hp h1) (x := Shape.Idx.first (h1.symm ▸ Nat.one_pos)) (k := K)
      (S := Finset.univ) (q := fullShare.right) (f := V m c main_call0_v61) (Finset.subset_univ _)
    rw [e] at H
    exact H
  unfold Comp at h ⊢
  iintro ⟨HT, HF⟩
  iapply H $$ HT
  iintro HT
  iapply h
  isplitl [HT]; · iexact HT
  iexact HF

/-- The staged queries, read. -/
theorem comp_queries {R : sProp 𝕄} {Q : β → sProp 𝕄} {inb} {hl} {K : Vec F S1x32x64x128 .bf16 → Prog (TpuEff nD τ sig (Elt F) Λ₀ .tc) β}
    (h : Comp m c q a4 a5 a6 a7 X4 X5 X6 X7 Y R f ⊢ Wp c (K X4) Q) :
    Comp m c q a4 a5 a6 a7 X4 X5 X6 X7 Y R f ⊢ Wp c (Prog.lift (.load a4 (Rect.unit (s := S1x32x64x128) ![0, 0, 0, 0] S1x32x64x128.size inb).toLoadRect hl) >>= K) Q := by
  unfold Comp at h ⊢
  iintro ⟨HT, H4, HF⟩
  iapply owns_load (funext fun x => congrArg X4 (Rect.emb_unit_full (s := S1x32x64x128) inb x)) $$ H4
  iintro H4
  iapply h
  iframe

/-- The staged weights, read. -/
theorem comp_weights {R : sProp 𝕄} {Q : β → sProp 𝕄} {inb} {hl} {K : Vec F S1x32x64x1 .bf16 → Prog (TpuEff nD τ sig (Elt F) Λ₀ .tc) β}
    (h : Comp m c q a4 a5 a6 a7 X4 X5 X6 X7 Y R f ⊢ Wp c (K X5) Q) :
    Comp m c q a4 a5 a6 a7 X4 X5 X6 X7 Y R f ⊢ Wp c (Prog.lift (.load a5 (Rect.unit (s := S1x32x64x1) ![0, 0, 0, 0] S1x32x64x1.size inb).toLoadRect hl) >>= K) Q := by
  unfold Comp at h ⊢
  iintro ⟨HT, H4, H5, HF⟩
  iapply owns_load (funext fun x => congrArg X5 (Rect.emb_unit_full (s := S1x32x64x1) inb x)) $$ H5
  iintro H5
  iapply h
  iframe

/-- The staged ends, read. -/
theorem comp_ends {R : sProp 𝕄} {Q : β → sProp 𝕄} {inb} {hl} {K : Vec F S64x1 .i32 → Prog (TpuEff nD τ sig (Elt F) Λ₀ .tc) β}
    (h : Comp m c q a4 a5 a6 a7 X4 X5 X6 X7 Y R f ⊢ Wp c (K X7) Q) :
    Comp m c q a4 a5 a6 a7 X4 X5 X6 X7 Y R f ⊢ Wp c (Prog.lift (.load a7 (Rect.unit (s := S64x1) ![0, 0] S64x1.size inb).toLoadRect hl) >>= K) Q := by
  unfold Comp at h ⊢
  iintro ⟨HT, H4, H5, H6, H7, HF⟩
  iapply owns_load (funext fun x => congrArg X7 (Rect.emb_unit_full (s := S64x1) inb x)) $$ H7
  iintro H7
  iapply h
  iframe

/-- The products, read. -/
theorem comp_products {R : sProp 𝕄} {Q : β → sProp 𝕄} {inb} {hl} {K : Vec F S2048x128 .bf16 → Prog (TpuEff nD τ sig (Elt F) Λ₀ .tc) β}
    (h : Comp m c q a4 a5 a6 a7 X4 X5 X6 X7 Y R f ⊢ Wp c (K Y) Q) :
    Comp m c q a4 a5 a6 a7 X4 X5 X6 X7 Y R f
      ⊢ Wp c (Prog.lift (.load (Memref.whole cc0_scratch0) (Rect.unit (s := S2048x128) ![0, 0] S2048x128.size inb).toLoadRect hl) >>= K) Q := by
  unfold Comp at h ⊢
  iintro ⟨HT, H4, H5, H6, H7, HY, HF⟩
  iapply owns_load (funext fun x => congrArg Y (Rect.emb_unit_full (s := S2048x128) inb x)) $$ HY
  iintro HY
  iapply h
  iframe

/-- The products, stored. -/
theorem comp_put {R : sProp 𝕄} {Q : β → sProp 𝕄} {inb} {hx} {hm} {w : Vec F S2048x128 .bf16} {K : PUnit → Prog (TpuEff nD τ sig (Elt F) Λ₀ .tc) β}
    (h : Comp m c q a4 a5 a6 a7 X4 X5 X6 X7 w R f ⊢ Wp c (K ⟨⟩) Q) :
    Comp m c q a4 a5 a6 a7 X4 X5 X6 X7 Y R f
      ⊢ Wp c (Prog.lift (.store (Memref.whole cc0_scratch0) (Rect.unit (s := S2048x128) ![0, 0] S2048x128.size inb) w Finset.univ hx hm) >>= K) Q := by
  unfold Comp at h ⊢
  iintro ⟨HT, H4, H5, H6, H7, HY, HF⟩
  iapply owns_put $$ HY
  iintro HY
  iapply h
  iframe

attribute [irreducible] lastEnd

/-- One chunk's keys, read. -/
theorem comp_keys {R : sProp 𝕄} {Q : β → sProp 𝕄} (k : Fin 4) {off : Fin 2 → Nat} {inb} {hl} {K : Vec F S2048x128 .bf16 → Prog (TpuEff nD τ sig (Elt F) Λ₀ .tc) β} (ho : off = ![2048 * k.val, 0])
    (h : Comp m c q a4 a5 a6 a7 X4 X5 X6 X7 Y R f ⊢ Wp c (K (keysOf X6 k)) Q) :
    Comp m c q a4 a5 a6 a7 X4 X5 X6 X7 Y R f ⊢ Wp c (Prog.lift (.load a6 (Rect.unit (s := S8192x128) off S2048x128.size inb).toLoadRect hl) >>= K) Q := by
  subst ho
  have e : (fun x => X6 ((Rect.unit (s := S8192x128) ![2048 * k.val, 0] S2048x128.size inb).emb x)) = keysOf X6 k := by
    funext x
    refine congrArg X6 (funext fun a => Fin.ext ?_)
    match a with
    | 0 => show 2048 * k.val + 1 * (x 0).val = 2048 * k.val + (x 0).val; omega
    | 1 => show 0 + 1 * (x 1).val = (x 1).val; omega
  unfold Comp at h ⊢
  iintro ⟨HT, H4, H5, H6, HF⟩
  iapply owns_load e $$ H6
  iintro H6
  iapply h
  iframe

/-- The elements a chunk of the scratch covers are its half's. -/
theorem chunk_mem {b : Fin 2} {k : Fin 4} {inb} (y : S1x64x2048.Idx) :
    (Rect.unit (s := S2x64x8192) ![b.val, 0, 2048 * k.val] S1x64x2048.size inb).emb y ∈ halfSet b := by
  have hy : (y 0).val < 1 := (y 0).isLt
  refine mem_halfSet.mpr ?_
  show b.val + 1 * (y 0).val = b.val
  omega

/-- A chunk of the scratch, read for nothing. -/
theorem comp_strip {R : sProp 𝕄} {Q : β → sProp 𝕄} (k : Fin 4) {off : Fin 3 → Nat} {inb} {hl} {K : Vec F S1x64x2048 .f32 → Prog (TpuEff nD τ sig (Elt F) Λ₀ .tc) β} (ho : off = ![(half q).val, 0, 2048 * k.val])
    (h : ∀ v, Comp m c q a4 a5 a6 a7 X4 X5 X6 X7 Y R f ⊢ Wp c (K v) Q) :
    Comp m c q a4 a5 a6 a7 X4 X5 X6 X7 Y R f
      ⊢ Wp c (Prog.lift (.load (Memref.whole cc0_scratch1) (Rect.unit (s := S2x64x8192) off S1x64x2048.size inb).toLoadRect hl) >>= K) Q := by
  subst ho
  have H := wp_load_rect (defs := defs₀ (F := F)) (Q := Q) (Γ := PendingWaitsCtx.empty) Variants.none (c : Thread nD τ) none Set.univ (m := Memref.whole cc0_scratch1)
    (r := Rect.unit (s := S2x64x8192) ![(half q).val, 0, 2048 * k.val] S1x64x2048.size inb) (hl := hl) (k := K) (S := halfSet (half q)) (q := fullShare) (f := f) (fun x hx => by obtain ⟨y, -, rfl⟩ := Finset.mem_map.mp hx; exact chunk_mem y)
  have H' : ((c : Thread nD τ).loc cc0_scratch1 ↦[halfSet (half q)]{fullShare} f : sProp 𝕄)
      ⊢ iprop((((c : Thread nD τ).loc cc0_scratch1 ↦[halfSet (half q)]{fullShare} f)
          -∗ Wp c (K (((Memref.whole cc0_scratch1).access (Rect.unit (s := S2x64x8192) ![(half q).val, 0, 2048 * k.val] S1x64x2048.size inb)).read (Elt F) f)) Q)
        -∗ Wp c (Prog.lift (.load (Memref.whole cc0_scratch1) (Rect.unit (s := S2x64x8192) ![(half q).val, 0, 2048 * k.val] S1x64x2048.size inb).toLoadRect hl) >>= K) Q) := H
  unfold Comp at h ⊢
  iintro ⟨HT, H4, H5, H6, H7, HY, HS, HF⟩
  iapply H' $$ HS
  iintro HS
  iapply h
  iframe

/-- The rows finished up to chunk `k`. -/
def Upto (m : (ℓ : Loc nD τ sig) → Buf (Elt F) ℓ) (c : Dev nD) (q : Fin 8) (X6 : Vec F S8192x128 .bf16) (X7 : Vec F S64x1 .i32) (Y : Vec F S2048x128 .bf16)
    (k : Nat) (f : Buf (Elt F) ((c : Thread nD τ).loc cc0_scratch1)) : Prop :=
  ∀ (r : Fin 64) (t : Fin 8192), t.val < 2048 * k → f (ix3 (half q) r t) = finished (lastEnd m c q) X7 Y X6 r t

/-- A chunk's values, stored. -/
theorem comp_store {R : sProp 𝕄} {Q : β → sProp 𝕄} (k : Fin 4) {off : Fin 3 → Nat} {inb} {w : Vec F S1x64x2048 .f32} {hx} {hm} {K : PUnit → Prog (TpuEff nD τ sig (Elt F) Λ₀ .tc) β}
    (ho : off = ![(half q).val, 0, 2048 * k.val]) (hw : w = chunk (lastEnd m c q) X7 Y X6 k) (hf : Upto m c q X6 X7 Y k.val f)
    (h : ∀ f', Upto m c q X6 X7 Y (k.val + 1) f' → Comp m c q a4 a5 a6 a7 X4 X5 X6 X7 Y R f' ⊢ Wp c (K ⟨⟩) Q) :
    Comp m c q a4 a5 a6 a7 X4 X5 X6 X7 Y R f
      ⊢ Wp c (Prog.lift (.store (Memref.whole cc0_scratch1) (Rect.unit (s := S2x64x8192) off S1x64x2048.size inb) w Finset.univ hx hm) >>= K) Q := by
  subst ho
  have H := wp_store (defs := defs₀ (F := F)) (Q := Q) (Γ := PendingWaitsCtx.empty) Variants.none (c : Thread nD τ) none Set.univ (m := Memref.whole cc0_scratch1)
    (r := Rect.unit (s := S2x64x8192) ![(half q).val, 0, 2048 * k.val] S1x64x2048.size inb) (w := w) (Mk := Finset.univ) (hx := hx) (hm := hm) (k := K)
    (S := halfSet (half q)) (f := f) (fun x hx => by obtain ⟨y, -, rfl⟩ := Finset.mem_map.mp hx; exact chunk_mem y)
  have hU : Upto m c q X6 X7 Y (k.val + 1)
      (((Memref.whole cc0_scratch1).access (Rect.unit (s := S2x64x8192) ![(half q).val, 0, 2048 * k.val] S1x64x2048.size inb)).write (Elt F) f w Finset.univ) := by
    intro r t ht
    by_cases hlt : t.val < 2048 * k.val
    · rw [View.write_of_not_mem, hf r t hlt]
      intro hx
      obtain ⟨y, -, hy⟩ := Finset.mem_map.mp hx
      have h2 : 2048 * k.val + 1 * (y 2).val = t.val := congrArg (fun z : S2x64x8192.Idx => (z 2).val) hy
      omega
    · have e : ((Memref.whole cc0_scratch1).access (Rect.unit (s := S2x64x8192) ![(half q).val, 0, 2048 * k.val] S1x64x2048.size inb)).emb
          (ix3 (0 : Fin 1) r (⟨t.val - 2048 * k.val, by omega⟩ : Fin 2048)) = (ix3 (half q) r t : S2x64x8192.Idx) := by
        funext a
        refine Fin.ext ?_
        match a with
        | 0 => show (half q).val + 1 * 0 = (half q).val; omega
        | 1 => show 0 + 1 * r.val = r.val; omega
        | 2 => show 2048 * k.val + 1 * (t.val - 2048 * k.val) = t.val; omega
      rw [← e, View.write_emb_of_mem _ _ (Finset.mem_univ _)]
      have h1 : t.val / 2048 = k.val := by omega
      have h2 : t.val % 2048 = t.val - 2048 * k.val := by omega
      show w _ = _
      rw [hw]
      unfold finished
      rw [show (⟨t.val / 2048, by omega⟩ : Fin 4) = k from Fin.ext h1]
      exact congrArg (chunk (lastEnd m c q) X7 Y X6 k) (congrArg (ix3 (0 : Fin 1) r) (Fin.ext h2.symm))
  have h' := h _ hU
  have H' : ((c : Thread nD τ).loc cc0_scratch1 ↦[halfSet (half q)]{fullShare} f : sProp 𝕄)
      ⊢ iprop((((c : Thread nD τ).loc cc0_scratch1 ↦[halfSet (half q)]{fullShare}
            (((Memref.whole cc0_scratch1).access (Rect.unit (s := S2x64x8192) ![(half q).val, 0, 2048 * k.val] S1x64x2048.size inb)).write (Elt F) f w Finset.univ))
          -∗ Wp c (K ⟨⟩) Q)
        -∗ Wp c (Prog.lift (.store (Memref.whole cc0_scratch1) (Rect.unit (s := S2x64x8192) ![(half q).val, 0, 2048 * k.val] S1x64x2048.size inb) w Finset.univ hx hm) >>= K) Q) := H
  unfold Comp at h' ⊢
  iintro ⟨HT, H4, H5, H6, H7, HY, HS, HF⟩
  iapply H' $$ HS
  iintro HS
  iapply h'
  iframe

/-- What is known once a chunk's scores were stored, if it starts before the block's last end. -/
def Half (m : (ℓ : Loc nD τ sig) → Buf (Elt F) ℓ) (c : Dev nD) (q : Fin 8) (X6 : Vec F S8192x128 .bf16) (X7 : Vec F S64x1 .i32) (Y : Vec F S2048x128 .bf16)
    (k : Fin 4) (f : Buf (Elt F) ((c : Thread nD τ).loc cc0_scratch1)) : Prop :=
  Upto m c q X6 X7 Y k.val f ∧ (((2048 * k.val : ℕ) : ℤ) < (lastEnd m c q).toInt → Upto m c q X6 X7 Y (k.val + 1) f)

theorem Half.hit {k : Fin 4} (h : Upto m c q X6 X7 Y (k.val + 1) f) : Half m c q X6 X7 Y k f :=
  ⟨fun r t ht => h r t (by omega), fun _ => h⟩

theorem Half.skip {k : Fin 4} (h : Upto m c q X6 X7 Y k.val f) (hs : ¬ ((2048 * k.val : ℕ) : ℤ) < (lastEnd m c q).toInt) : Half m c q X6 X7 Y k f :=
  ⟨h, fun h' => absurd h' hs⟩

/-- A chunk's scores, where the chunk starts before the block's last end. -/
theorem chunk_hit {t s : BitVec 32} {e : Vec F S64x1 .i32} {qw : Vec F S2048x128 .bf16} {K : Vec F S8192x128 .bf16} (k : Fin 4)
    (ht : t = BitVec.ofNat 32 (2048 * k.val)) (hs : ((2048 * k.val : ℕ) : ℤ) < s.toInt) : score t e qw (keysOf K k) = chunk s e qw K k := by
  rw [chunk, if_pos hs, ht]

/-- A chunk's scores, elsewhere. -/
theorem chunk_fill {s : BitVec 32} {e : Vec F S64x1 .i32} {qw : Vec F S2048x128 .bf16} {K : Vec F S8192x128 .bf16} (k : Fin 4)
    (hs : ¬ ((2048 * k.val : ℕ) : ℤ) < s.toInt) : (k0_pay1 : FVec F S1x64x2048 .f32) = chunk s e qw K k := by
  rw [chunk, if_neg hs]

/-- The conditional that scores a chunk, and what follows it. -/
theorem hit_step {R : sProp 𝕄} {Q : β → sProp 𝕄} (k : Fin 4) {cnd : Prop} {dc : Decidable cnd}
    {A J : Prog (TpuEff nD τ sig (Elt F) Λ₀ .tc) β} (hc : cnd ↔ ((2048 * k.val : ℕ) : ℤ) < (lastEnd m c q).toInt)
    (hf : Upto m c q X6 X7 Y k.val f)
    (hA : ((2048 * k.val : ℕ) : ℤ) < (lastEnd m c q).toInt →
      (∀ f', Upto m c q X6 X7 Y (k.val + 1) f' → Comp m c q a4 a5 a6 a7 X4 X5 X6 X7 Y R f' ⊢ Wp c J Q) → Comp m c q a4 a5 a6 a7 X4 X5 X6 X7 Y R f ⊢ Wp c A Q)
    (h : ∀ f', Half m c q X6 X7 Y k f' → Comp m c q a4 a5 a6 a7 X4 X5 X6 X7 Y R f' ⊢ Wp c J Q) :
    Comp m c q a4 a5 a6 a7 X4 X5 X6 X7 Y R f ⊢ Wp c (if cnd then A else J) Q := by
  by_cases hs : cnd
  · rw [if_pos hs]
    exact hA (hc.mp hs) fun f' hf' => h f' (Half.hit m hf')
  · rw [if_neg hs]
    exact h f (Half.skip m hf fun h' => hs (hc.mpr h'))

/-- The conditional that fills a chunk with minus infinity, and what follows it. -/
theorem fill_step {R : sProp 𝕄} {Q : β → sProp 𝕄} (k : Fin 4) {cnd : Prop} {dc : Decidable cnd}
    {A J : Prog (TpuEff nD τ sig (Elt F) Λ₀ .tc) β} (hc : cnd ↔ ¬ ((2048 * k.val : ℕ) : ℤ) < (lastEnd m c q).toInt)
    (hf : Half m c q X6 X7 Y k f)
    (hA : ¬ ((2048 * k.val : ℕ) : ℤ) < (lastEnd m c q).toInt →
      (∀ f', Upto m c q X6 X7 Y (k.val + 1) f' → Comp m c q a4 a5 a6 a7 X4 X5 X6 X7 Y R f' ⊢ Wp c J Q) → Comp m c q a4 a5 a6 a7 X4 X5 X6 X7 Y R f ⊢ Wp c A Q)
    (h : ∀ f', Upto m c q X6 X7 Y (k.val + 1) f' → Comp m c q a4 a5 a6 a7 X4 X5 X6 X7 Y R f' ⊢ Wp c J Q) :
    Comp m c q a4 a5 a6 a7 X4 X5 X6 X7 Y R f ⊢ Wp c (if cnd then A else J) Q := by
  by_cases hs : cnd
  · rw [if_pos hs]
    exact hA (hc.mp hs) h
  · rw [if_neg hs]
    exact h f (hf.2 (by by_contra h'; exact hs (hc.mpr h')))

end Cert.KernelIdeal.Hand
-- ==== Proof.Slots.lean ====
/-
  What lies between grid points: the two halves of the scratch, each idle or behind a block's copies, and the result's
  blocks.
-/
module

public import proofs.«01_k».proof.Proof.Compute

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

variable (m : (ℓ : Loc nD τ sig) → Buf (Elt F) ℓ)

/-- The rows of one block of the result, at contents `g`. -/
def Block (c : Dev nD) (g : Buf (Elt F) ((c : Thread nD τ).loc main_v0)) (q : Fin 8) : sProp 𝕄 :=
  bigSep Finset.univ fun r : Fin 64 => ((c : Thread nD τ).loc main_v0 ↦[outRow (rowOf m c q r)]{fullShare} g)

/-- A half of the scratch at rest: its counter at zero, and its elements. -/
def Idle (c : Dev nD) (b : Fin 2) : sProp 𝕄 :=
  iprop(semVal (c, SemLoc.dma (cell b)) 0 ∗ ∃ f, ((c : Thread nD τ).loc cc0_scratch1 ↦[halfSet b]{fullShare} f))

/-- A half of the scratch is its rows. -/
theorem half_rows (b : Fin 2) : halfSet b = Finset.univ.biUnion (stripRow b) := by
  ext x
  rw [mem_halfSet, Finset.mem_biUnion]
  constructor
  · intro h
    exact ⟨x 1, Finset.mem_univ _, mem_stripRow.mpr ⟨h, rfl⟩⟩
  · rintro ⟨r, -, h⟩
    exact (mem_stripRow.mp h).1

theorem rows_disjoint (b : Fin 2) : ∀ r ∈ (Finset.univ : Finset (Fin 64)), ∀ r' ∈ (Finset.univ : Finset (Fin 64)), r ≠ r' → Disjoint (stripRow b r) (stripRow b r') := by
  intro r _ r' _ hne
  refine Finset.disjoint_left.mpr fun x hx hx' => hne (Fin.ext ?_)
  rw [← (mem_stripRow.mp hx).2, (mem_stripRow.mp hx').2]

/-- The halves are disjoint and are the whole scratch. -/
theorem halves : Finset.univ.biUnion halfSet = (Finset.univ : Finset S2x64x8192.Idx) := by
  ext x
  rw [Finset.mem_biUnion]
  exact ⟨fun _ => Finset.mem_univ _, fun _ => ⟨x 0, Finset.mem_univ _, mem_halfSet.mpr rfl⟩⟩

theorem halves_disjoint : ∀ b ∈ (Finset.univ : Finset (Fin 2)), ∀ b' ∈ (Finset.univ : Finset (Fin 2)), b ≠ b' → Disjoint (halfSet b) (halfSet b') := by
  intro b _ b' _ hne
  refine Finset.disjoint_left.mpr fun x hx hx' => hne (Fin.ext ?_)
  rw [← mem_halfSet.mp hx, mem_halfSet.mp hx']

variable {c : Dev nD} {q : Fin 8} {G : Buf (Elt F) ((c : Thread nD τ).loc main_v0)}

/-- A block's copies all waited for: its rows of the result hold the final contents, and its half is at rest. -/
theorem flight_land : Flight m c q G 64 (rowN * 64) ⊢ (|={Set.univ}=> iprop(Block m c G q ∗ Idle c (half q)) : sProp 𝕄) := by
  iintro HB
  imod (batch_collect' (countersEmb (U := Pipeline.UD sig nD τ)) (c : Thread nD τ) rowN_pos) $$ HB with ⟨HD, HV⟩
  imodintro
  unfold Deliv
  ihave HD' := (Entails.of_eq (bigSep_sep' _ _ _)) $$ HD
  icases HD' with ⟨HO, HS⟩
  isplitl [HO]
  · unfold Block; iexact HO
  unfold Idle
  isplitl [HV]; · iexact HV
  ihave HS' := bigSep_exists_pi (Y := fun _ : Fin 64 => Buf (Elt F) ((c : Thread nD τ).loc cc0_scratch1)) Finset.univ
    (fun r f => ((c : Thread nD τ).loc cc0_scratch1 ↦[stripRow (half q) r]{fullShare} f)) $$ HS
  icases HS' with ⟨%fs, HS⟩
  ihave HS' := pointsTo_biUnion_join (ℓ := (c : Thread nD τ).loc cc0_scratch1) (q := fullShare) Finset.univ (stripRow (half q)) fs (fs 0) (rows_disjoint _) $$ HS
  icases HS' with ⟨%g, -, HS⟩
  iexists g
  rw [half_rows]
  iexact HS

/-- A block's copies about to start. -/
theorem flush_start {f : Buf (Elt F) ((c : Thread nD τ).loc cc0_scratch1)} {R : sProp 𝕄} :
    iprop(semVal (c, SemLoc.dma (cell (half q))) 0 ∗ ((c : Thread nD τ).loc cc0_scratch1 ↦[halfSet (half q)]{fullShare} f)
      ∗ Block m c (V m c main_v0) q ∗ ((c : Thread nD τ).loc main_call0_v29 ↦{fullShare.right} V m c main_call0_v29) ∗ R)
      ⊢ (|={Set.univ}=> Flush m c q f G R 0 : sProp 𝕄) := by
  unfold Flush Block
  rw [← bigSep_pending_zero, bigSep_sep', half_rows, pointsTo_biUnion _ _ (rows_disjoint _)]
  iintro ⟨HV, HS, HO, HT, HR⟩
  imod (batch_alloc' (countersEmb (U := Pipeline.UD sig nD τ)) (c : Thread nD τ) () rowN (Deliv m c q G) (E := Set.univ)) $$ HV with HB
  imodintro
  isplitl [HT]; · iexact HT
  isplitl [HS HO]
  · isplitl [HS]; · iexact HS
    iexact HO
  isplitl [HB]; · iexact HB
  iexact HR

/-- A block's copies all started. -/
theorem flush_end {f : Buf (Elt F) ((c : Thread nD τ).loc cc0_scratch1)} {R : sProp 𝕄} :
    Flush m c q f G R 64 ⊢ iprop(((c : Thread nD τ).loc main_call0_v29 ↦{fullShare.right} V m c main_call0_v29) ∗ Flight m c q G 64 (rowN * 0) ∗ R) := by
  unfold Flush
  rw [Nat.mul_zero]
  iintro ⟨HT, -, HB, HR⟩
  iframe

/-- A half of the scratch as a grid point finds it: behind the copies of the block two points earlier, at rest before
    there is one. -/
def Slot (c : Dev nD) (G : Buf (Elt F) ((c : Thread nD τ).loc main_v0)) (x : ℕ) : sProp 𝕄 :=
  if h : 2 ≤ x ∧ x - 2 < 8 then Flight m c ⟨x - 2, h.2⟩ G 64 (rowN * 0) else Idle c ⟨x % 2, Nat.mod_lt _ (by decide)⟩

theorem slot_flight {p : Fin 8} {x : ℕ} (h : x = p.val + 2) : Slot m c G x = Flight m c p G 64 (rowN * 0) := by
  subst h
  unfold Slot
  rw [dif_pos ⟨by omega, by have := p.isLt; omega⟩]
  rfl

theorem slot_idle {x : ℕ} (b : Fin 2) (h : x = b.val) : Slot m c G x = Idle c b := by
  subst h
  have hb := b.isLt
  unfold Slot
  rw [dif_neg (by omega), show (⟨b.val % 2, Nat.mod_lt _ (by decide)⟩ : Fin 2) = b from Fin.ext (Nat.mod_eq_of_lt hb)]

/-- The blocks of the result whose copies have been waited for before point `n`. -/
def Landed (c : Dev nD) (G : Buf (Elt F) ((c : Thread nD τ).loc main_v0)) (n : ℕ) : sProp 𝕄 :=
  bigSep (Finset.univ.filter fun q : Fin 8 => q.val + 2 < n) (Block m c G)

/-- One block more has landed. -/
theorem landed_step {p : Fin 8} {n : ℕ} (h : n = p.val + 2) : Landed m c G (n + 1) = iprop(Block m c G p ∗ Landed m c G n) := by
  subst h
  unfold Landed
  refine Eq.trans (congrArg (fun s => bigSep s (Block m c G)) ?_) (bigSep_insert (i := p) (by simp))
  ext x
  simp only [Finset.mem_filter, Finset.mem_univ, true_and, Finset.mem_insert, Fin.ext_iff]
  omega

/-- No block lands at the first two points. -/
theorem landed_stay {n : ℕ} (h : n < 2) : Landed m c G (n + 1) = Landed m c G n := by
  unfold Landed
  congr 1
  ext x
  simp only [Finset.mem_filter, Finset.mem_univ, true_and]
  omega

end Cert.KernelIdeal.Hand
-- ==== Proof.Front.lean ====
/-
  The body at one grid point: its first part.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

variable (m : (ℓ : Loc nD τ sig) → Buf (Elt F) ℓ)

attribute [local irreducible] Wp

variable {i : grid0.Coords} {a4 : Memref sig .tc .vmem S1x32x64x128 .bf16} {ha4 : a4.IsWhole} {a5 : Memref sig .tc .vmem S1x32x64x1 .bf16} {ha5 : a5.IsWhole}
  {a6 : Memref sig .tc .vmem S8192x128 .bf16} {ha6 : a6.IsWhole} {a7 : Memref sig .tc .vmem S64x1 .i32} {ha7 : a7.IsWhole}
  {X4 : Vec F S1x32x64x128 .bf16} {X5 : Vec F S1x32x64x1 .bf16} {X6 : Vec F S8192x128 .bf16} {X7 : Vec F S64x1 .i32}

/-- What the body finds of the computing part's resources at a grid point, but for the block's own rows. -/
def Found (c : Dev nD) (i : grid0.Coords) (a4 : Memref sig .tc .vmem S1x32x64x128 .bf16) (a5 : Memref sig .tc .vmem S1x32x64x1 .bf16)
    (a6 : Memref sig .tc .vmem S8192x128 .bf16) (a7 : Memref sig .tc .vmem S64x1 .i32) (X4 : Vec F S1x32x64x128 .bf16) (X5 : Vec F S1x32x64x1 .bf16)
    (X6 : Vec F S8192x128 .bf16) (X7 : Vec F S64x1 .i32) (S : sProp 𝕄) : sProp 𝕄 :=
  iprop(((c : Thread nD τ).loc main_call0_v61 ↦{fullShare.right} V m c main_call0_v61) ∗ owns (c : Thread nD τ) a4 fullShare X4
    ∗ owns (c : Thread nD τ) a5 fullShare X5 ∗ owns (c : Thread nD τ) a6 fullShare X6 ∗ owns (c : Thread nD τ) a7 fullShare X7
    ∗ (∃ Y, owns (c : Thread nD τ) (Memref.whole cc0_scratch0) fullShare Y) ∗ S)

/-- What is held beside the computing part's resources. -/
def Aside (c : Dev nD) (i : grid0.Coords) (G : Buf (Elt F) ((c : Thread nD τ).loc main_v0)) (R : sProp 𝕄) : sProp 𝕄 :=
  iprop(semVal (c, SemLoc.dma (cell (half (i 0)))) 0 ∗ Landed m c G ((i 0).val + 1) ∗ (∃ W, owes (c : Thread nD τ) 0 W) ∗ R)

/-- The earlier block's copies waited for. -/
theorem drained {c : Dev nD} {G} {R S : sProp 𝕄} {p : Fin 8} (hp : (i 0).val = p.val + 2) :
    iprop(Flight m c p G 64 (rowN * 64) ∗ (∃ W, owes (c : Thread nD τ) 0 W) ∗ S ∗ Landed m c G (i 0).val ∗ R)
      ⊢ (|={Set.univ}=> iprop(S ∗ Idle c (half (i 0)) ∗ Landed m c G ((i 0).val + 1) ∗ (∃ W, owes (c : Thread nD τ) 0 W) ∗ R) : sProp 𝕄) := by
  have hh : half (i 0) = half p := Fin.ext (by show (i 0).val % 2 = p.val % 2; omega)
  rw [hh, landed_step m hp]
  iintro ⟨HB, HW, HS, HL, HR⟩
  imod (flight_land m) $$ HB with ⟨HB, HI⟩
  imodintro
  iframe

/-- The computing part's resources, whatever the scratch buffers hold. -/
theorem comp_of_found {c : Dev nD} {G} {R : sProp 𝕄} {β : Type} {p : Prog (TpuEff nD τ sig (Elt F) Λ₀ .tc) β} {Q : β → sProp 𝕄}
    (h : ∀ Y f, Comp m c (i 0) a4 a5 a6 a7 X4 X5 X6 X7 Y (Aside m c i G R) f ⊢ Wp c p Q) :
    Found m c i a4 a5 a6 a7 X4 X5 X6 X7 iprop(Idle c (half (i 0)) ∗ Landed m c G ((i 0).val + 1) ∗ (∃ W, owes (c : Thread nD τ) 0 W) ∗ R) ⊢ Wp c p Q := by
  unfold Found Idle
  iintro ⟨HT, H4, H5, H6, H7, ⟨%Y, HY⟩, ⟨HV, ⟨%f, HS⟩⟩, HR⟩
  iapply (h Y f)
  unfold Comp Aside
  iframe

/-- The first part of the body: the earlier block's copies waited for, the products, and three chunks but for the last filling. -/
theorem front {c : Dev nD} {G} {R : sProp 𝕄} {Q}
    (h : ∀ f v0 v29 v37, v29 = BitVec.ofNat 32 (2048 * 2) → v37 = Scalar.cmpi .sge (BitVec.ofNat 32 (2048 * 2)) (lastEnd m c (i 0)) →
      Half m c (i 0) X6 X7 (k0_pay4 X4 X5) 2 f →
      Comp m c (i 0) a4 a5 a6 a7 X4 X5 X6 X7 (k0_pay4 X4 X5) (Aside m c i G R) f ⊢ Q ⟨BitVec.ofNat 32 (i 0).val, BitVec.ofNat 32 (i 1).val, v0, v29, v37⟩) :
   Found m c i a4 a5 a6 a7 X4 X5 X6 X7 iprop(Slot m c G (i 0).val ∗ Landed m c G (i 0).val ∗ (∃ W, owes (c : Thread nD τ) 0 W) ∗ R)
     ⊢ Wp c (k0_part54 i (Memref.whole main_call0_v29) (Memref.isWhole_whole _) (Memref.whole main_call0_v61) (Memref.isWhole_whole _)
     a4 ha4 a5 ha5 a6 ha6 a7 ha7 (Memref.whole main_v0) (Memref.isWhole_whole _) (Memref.whole cc0_scratch0) (Memref.isWhole_whole _)
     (Memref.whole cc0_scratch1) (Memref.isWhole_whole _) cc0_scratch2) Q := by
  have h1 : k0_cond1 i = 1#1 := by clear * - i; revert i; decide +kernel
  have ht0 : Scalar.addi (Scalar.muli (BitVec.ofNat 32 (i 1).val) 8192#32) 0#32 = BitVec.ofNat 32 (2048 * (0 : Fin 4).val) := by
    clear * - i; revert i; decide +kernel
  have ht1 : Scalar.addi (Scalar.muli (BitVec.ofNat 32 (i 1).val) 8192#32) 2048#32 = BitVec.ofNat 32 (2048 * (1 : Fin 4).val) := by
    clear * - i; revert i; decide +kernel
  have ht2 : Scalar.addi (Scalar.muli (BitVec.ofNat 32 (i 1).val) 8192#32) 4096#32 = BitVec.ofNat 32 (2048 * (2 : Fin 4).val) := by
    clear * - i; revert i; decide +kernel
  rw [k0_part54_eq_skeleton]
  unfold k0_part54_skel
  rw [dif_pos h1]
  refine dif_step (Found m c i a4 a5 a6 a7 X4 X5 X6 X7 iprop(Idle c (half (i 0)) ∗ Landed m c G ((i 0).val + 1) ∗ (∃ W, owes (c : Thread nD τ) 0 W) ∗ R))
    (fun _ => rfl) ?_ (fun h2 hJ2 => ?_) (fun h2 => ?_)
  · refine comp_of_found m fun Y f => ?_
    refine comp_queries m ?_
    refine comp_weights m ?_
    refine comp_products m ?_
    refine comp_put m ?_
    refine comp_end m (by clear * - i; revert i; decide +kernel) ?_
    refine hit_step m 0 ?_ (fun r t ht => absurd ht (by simp)) (fun hs hJ => ?_) (fun f hf => ?_)
    · exact slt_iff 0 ht0
    · refine comp_ends m ?_
      refine comp_products m ?_
      refine comp_keys m 0 rfl ?_
      refine comp_strip m 0 (by clear * - i; revert i; decide +kernel) fun _ => ?_
      exact comp_store m 0 (by clear * - i; revert i; decide +kernel) (chunk_hit 0 ht0 hs) (fun r t ht => absurd ht (by simp)) hJ
    beta_reduce
    refine comp_end m (by clear * - i; revert i; decide +kernel) ?_
    refine fill_step m 0 ?_ hf (fun hs hJ => ?_) (fun f hf => ?_)
    · exact sge_iff 0 ht0
    · refine comp_strip m 0 (by clear * - i; revert i; decide +kernel) fun _ => ?_
      exact comp_store m 0 (by clear * - i; revert i; decide +kernel) (chunk_fill 0 hs) hf.1 hJ
    beta_reduce
    refine comp_end m (by clear * - i; revert i; decide +kernel) ?_
    refine hit_step m 1 ?_ hf (fun hs hJ => ?_) (fun f hf => ?_)
    · exact slt_iff 1 ht1
    · refine comp_ends m ?_
      refine comp_products m ?_
      refine comp_keys m 1 rfl ?_
      refine comp_strip m 1 (by clear * - i; revert i; decide +kernel) fun _ => ?_
      exact comp_store m 1 (by clear * - i; revert i; decide +kernel) (chunk_hit 1 ht1 hs) hf hJ
    beta_reduce
    refine comp_end m (by clear * - i; revert i; decide +kernel) ?_
    refine fill_step m 1 ?_ hf (fun hs hJ => ?_) (fun f hf => ?_)
    · exact sge_iff 1 ht1
    · refine comp_strip m 1 (by clear * - i; revert i; decide +kernel) fun _ => ?_
      exact comp_store m 1 (by clear * - i; revert i; decide +kernel) (chunk_fill 1 hs) hf.1 hJ
    beta_reduce
    refine comp_end m (by clear * - i; revert i; decide +kernel) ?_
    refine hit_step m 2 ?_ hf (fun hs hJ => ?_) (fun f hf => ?_)
    · exact slt_iff 2 ht2
    · refine comp_ends m ?_
      refine comp_products m ?_
      refine comp_keys m 2 rfl ?_
      refine comp_strip m 2 (by clear * - i; revert i; decide +kernel) fun _ => ?_
      exact comp_store m 2 (by clear * - i; revert i; decide +kernel) (chunk_hit 2 ht2 hs) hf hJ
    beta_reduce
    refine comp_end m (by clear * - i; revert i; decide +kernel) ?_
    refine ret_step ?_
    refine h f _ _ _ ht2 ?_ hf
    rw [ht2]
    rfl
  · have hge : 2 ≤ (i 0).val := by clear * - h2; revert h2; revert i; decide +kernel
    have hlt : (i 0).val < 8 := (i 0).isLt
    have he0 : k0_off1 i = ![(half (i 0)).val] := by clear * - i; revert i; decide +kernel
    obtain ⟨p, hp⟩ : ∃ p : Fin 8, (i 0).val = p.val + 2 := ⟨⟨(i 0).val - 2, by omega⟩, by show _ = (i 0).val - 2 + 2; omega⟩
    have he : k0_off1 i = ![(half p).val] := by
      rw [he0, show half (i 0) = half p from Fin.ext (by show (i 0).val % 2 = p.val % 2; omega)]
    rw [slot_flight m hp]
    refine BIBase.Entails.trans (Q := iprop(Flight m c p G 64 (rowN * 0) ∗ (∃ W, owes (c : Thread nD τ) 0 W)
      ∗ Found m c i a4 a5 a6 a7 X4 X5 X6 X7 iprop(emp) ∗ Landed m c G (i 0).val ∗ R)) ?_ ?_
    · unfold Found
      iintro ⟨HT, H4, H5, H6, H7, HY, HB, HL, HW, HR⟩
      iframe
    iterate 10
      refine part_step ?_
      iterate 6 refine wait_step m (by decide) he ?_
      refine ret_step ?_
    iterate 4 refine wait_step m (by decide) he ?_
    refine upd_step (drained m hp) (BIBase.Entails.trans ?_ hJ2)
    unfold Found
    iintro ⟨⟨HT, H4, H5, H6, H7, HY, -⟩, HF⟩
    iframe
  · have hge : (i 0).val < 2 := by clear * - h2; revert h2; revert i; decide +kernel
    rw [slot_idle m (half (i 0)) (by show (i 0).val = (i 0).val % 2; omega), landed_stay m hge]

end Cert.KernelIdeal.Hand
-- ==== Proof.Body.lean ====
/-
  The body at one grid point: its second part, and the whole.
-/
module

public import proofs.«01_k».proof.Proof.Front

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

variable (m : (ℓ : Loc nD τ sig) → Buf (Elt F) ℓ)

attribute [local irreducible] Wp

variable {i : grid0.Coords} {a4 : Memref sig .tc .vmem S1x32x64x128 .bf16} {ha4 : a4.IsWhole} {a5 : Memref sig .tc .vmem S1x32x64x1 .bf16} {ha5 : a5.IsWhole}
  {a6 : Memref sig .tc .vmem S8192x128 .bf16} {ha6 : a6.IsWhole} {a7 : Memref sig .tc .vmem S64x1 .i32} {ha7 : a7.IsWhole}
  {X4 : Vec F S1x32x64x128 .bf16} {X5 : Vec F S1x32x64x1 .bf16} {X6 : Vec F S8192x128 .bf16} {X7 : Vec F S64x1 .i32}

/-- What the body leaves of the slots: the next two, or, at the last point, everything landed and both halves at rest. -/
def After (c : Dev nD) (G : Buf (Elt F) ((c : Thread nD τ).loc main_v0)) (n : ℕ) : sProp 𝕄 :=
  if n = 7 then iprop(Idle c 0 ∗ Idle c 1 ∗ Landed m c G 10) else iprop(Slot m c G (n + 1) ∗ Slot m c G (n + 2) ∗ Landed m c G (n + 1))

/-- The body's tail keeps the staged blocks whatever it does. -/
theorem found_of_comp {c : Dev nD} {G} {Y : Vec F S2048x128 .bf16} {R : sProp 𝕄} {f : Buf (Elt F) ((c : Thread nD τ).loc cc0_scratch1)} :
    Comp m c (i 0) a4 a5 a6 a7 X4 X5 X6 X7 Y (Aside m c i G iprop(Block m c (V m c main_v0) (i 0) ∗ ((c : Thread nD τ).loc main_call0_v29 ↦{fullShare.right} V m c main_call0_v29) ∗ R)) f
      ⊢ (|={Set.univ}=> Flush m c (i 0) f G (Found m c i a4 a5 a6 a7 X4 X5 X6 X7 iprop(Landed m c G ((i 0).val + 1) ∗ (∃ W, owes (c : Thread nD τ) 0 W) ∗ R)) 0 : sProp 𝕄) := by
  refine BIBase.Entails.trans ?_ (flush_start m)
  unfold Comp Aside Found
  iintro ⟨HT, H4, H5, H6, H7, HY, HS, HV, HL, HW, HO, HT', HR⟩
  iframe
  iexists Y
  iexact HY

/-- Both last blocks landed. -/
theorem landed_last {c : Dev nD} {G} {R : sProp 𝕄} :
    iprop(Flight m c 7 G 64 (rowN * 64) ∗ (∃ W, owes (c : Thread nD τ) 0 W) ∗ Flight m c 6 G 64 (rowN * 64) ∗ Landed m c G 8 ∗ R)
      ⊢ (|={Set.univ}=> iprop(After m c G 7 ∗ (∃ W, owes (c : Thread nD τ) 0 W) ∗ R) : sProp 𝕄) := by
  unfold After
  rw [if_pos rfl, landed_step m (p := 7) (n := 9) rfl, landed_step m (p := 6) (n := 8) rfl]
  iintro ⟨H7, HW, H6, HL, HR⟩
  imod (flight_land m) $$ H7 with ⟨HB7, HI7⟩
  imod (flight_land m) $$ H6 with ⟨HB6, HI6⟩
  imodintro
  isplitl [HB7 HB6 HI7 HI6 HL]
  · isplitl [HI6]; · iexact HI6
    isplitl [HI7]; · iexact HI7
    iframe
  iframe

/-- The last point: the two blocks still to land. -/
theorem last_ready {c : Dev nD} {G} {R : sProp 𝕄} (e : (i 0).val = 7) :
    iprop(((c : Thread nD τ).loc main_call0_v29 ↦{fullShare.right} V m c main_call0_v29) ∗ Flight m c (i 0) G 64 (rowN * 0)
        ∗ Found m c i a4 a5 a6 a7 X4 X5 X6 X7 iprop(Landed m c G ((i 0).val + 1) ∗ (∃ W, owes (c : Thread nD τ) 0 W) ∗ Slot m c G ((i 0).val + 1) ∗ R))
      ⊢ iprop(Flight m c 6 G 64 (rowN * 0) ∗ (∃ W, owes (c : Thread nD τ) 0 W)
        ∗ (Flight m c 7 G 64 (rowN * 0) ∗ Landed m c G 8 ∗ ((c : Thread nD τ).loc main_call0_v29 ↦{fullShare.right} V m c main_call0_v29)
          ∗ Found m c i a4 a5 a6 a7 X4 X5 X6 X7 R)) := by
  have e' : i 0 = (show Fin (grid0.bound 0) from (7 : Fin 8)) := Fin.ext e
  rw [show (i 0).val + 1 = 8 from by omega,
    show Flight m c (i 0) G 64 (rowN * 0) = Flight m c 7 G 64 (rowN * 0) from congrArg (fun q : Fin 8 => Flight m c q G 64 (rowN * 0)) e',
    slot_flight m (p := 6) (x := 8) rfl]
  unfold Found
  iintro ⟨HT, H7, H1, H4, H5, H6, H8, HY, HL, HW, HS, HR⟩
  iframe

/-- The first of the two landed; the second's turn. -/
theorem last_swap {c : Dev nD} {G} {R : sProp 𝕄} :
    iprop(Flight m c 6 G 64 (rowN * 64) ∗ (∃ W, owes (c : Thread nD τ) 0 W) ∗ (Flight m c 7 G 64 (rowN * 0) ∗ R))
      ⊢ (|={Set.univ}=> iprop(Flight m c 7 G 64 (rowN * 0) ∗ (∃ W, owes (c : Thread nD τ) 0 W) ∗ (Flight m c 6 G 64 (rowN * 64) ∗ R)) : sProp 𝕄) := by
  iintro ⟨H6, HW, H7, HR⟩
  imodintro
  iframe

/-- Both landed: the state the last point leaves. -/
theorem last_done {c : Dev nD} {G} {R : sProp 𝕄} (e : (i 0).val = 7) :
    iprop(Flight m c 7 G 64 (rowN * 64) ∗ (∃ W, owes (c : Thread nD τ) 0 W) ∗ (Flight m c 6 G 64 (rowN * 64) ∗ Landed m c G 8
          ∗ ((c : Thread nD τ).loc main_call0_v29 ↦{fullShare.right} V m c main_call0_v29) ∗ Found m c i a4 a5 a6 a7 X4 X5 X6 X7 R))
      ⊢ (|={Set.univ}=> Found m c i a4 a5 a6 a7 X4 X5 X6 X7 iprop(((c : Thread nD τ).loc main_call0_v29 ↦{fullShare.right} V m c main_call0_v29)
        ∗ After m c G (i 0).val ∗ (∃ W, owes (c : Thread nD τ) 0 W) ∗ R) : sProp 𝕄) := by
  rw [e]
  unfold Found
  iintro ⟨H7, HW, H6, HL, HF⟩
  imod (landed_last m) $$ [H7 HW H6 HL HF] with ⟨HA, HW, HF⟩
  · isplitl [H7]; · iexact H7
    isplitl [HW]; · iexact HW
    isplitl [H6]; · iexact H6
    isplitl [HL]; · iexact HL
    iexact HF
  imodintro
  icases HF with ⟨HT, H1, H4, H5, H6, H7, HY, HR⟩
  iframe

/-- Any other point: its own block is on its way. -/
theorem others_done {c : Dev nD} {G} {R : sProp 𝕄} (e : (i 0).val ≠ 7) :
    iprop(((c : Thread nD τ).loc main_call0_v29 ↦{fullShare.right} V m c main_call0_v29) ∗ Flight m c (i 0) G 64 (rowN * 0)
        ∗ Found m c i a4 a5 a6 a7 X4 X5 X6 X7 iprop(Landed m c G ((i 0).val + 1) ∗ (∃ W, owes (c : Thread nD τ) 0 W) ∗ Slot m c G ((i 0).val + 1) ∗ R))
      ⊢ (Found m c i a4 a5 a6 a7 X4 X5 X6 X7 iprop(((c : Thread nD τ).loc main_call0_v29 ↦{fullShare.right} V m c main_call0_v29)
        ∗ After m c G (i 0).val ∗ (∃ W, owes (c : Thread nD τ) 0 W) ∗ R) : sProp 𝕄) := by
  unfold After
  rw [if_neg e, slot_flight m (p := i 0) (x := (i 0).val + 2) rfl]
  unfold Found
  iintro ⟨HT, HF, H1, H4, H5, H6, H8, HY, HL, HW, HS, HR⟩
  iframe

set_option maxHeartbeats 2000000 in
/-- The body at a grid point, from the state the point finds to the state it leaves. -/
theorem body {c : Dev nD} {G} {R : sProp 𝕄}
    (hG : ∀ (r : Fin 64) (t : Fin 8192), G (ix2 (rowOf m c (i 0) r) t : S512x8192.Idx) = finished (lastEnd m c (i 0)) X7 (k0_pay4 X4 X5) X6 r t) :
   Found m c i a4 a5 a6 a7 X4 X5 X6 X7 iprop(Slot m c G (i 0).val ∗ Landed m c G (i 0).val ∗ (∃ W, owes (c : Thread nD τ) 0 W)
       ∗ Block m c (V m c main_v0) (i 0) ∗ ((c : Thread nD τ).loc main_call0_v29 ↦{fullShare.right} V m c main_call0_v29) ∗ Slot m c G ((i 0).val + 1) ∗ R)
     ⊢ Wp c (cc0__body i (Memref.whole main_call0_v29) (Memref.isWhole_whole _) (Memref.whole main_call0_v61) (Memref.isWhole_whole _)
     a4 ha4 a5 ha5 a6 ha6 a7 ha7 (Memref.whole main_v0) (Memref.isWhole_whole _) (Memref.whole cc0_scratch0) (Memref.isWhole_whole _)
     (Memref.whole cc0_scratch1) (Memref.isWhole_whole _) cc0_scratch2)
      (fun _ => Found m c i a4 a5 a6 a7 X4 X5 X6 X7 iprop(((c : Thread nD τ).loc main_call0_v29 ↦{fullShare.right} V m c main_call0_v29)
        ∗ After m c G (i 0).val ∗ (∃ W, owes (c : Thread nD τ) 0 W) ∗ R)) := by
  have ht3 : Scalar.addi (Scalar.muli (BitVec.ofNat 32 (i 1).val) 8192#32) 6144#32 = BitVec.ofNat 32 (2048 * (3 : Fin 4).val) := by
    clear * - i; revert i; decide +kernel
  have h11 : k0_cond11 i = 1#1 := by clear * - i; revert i; decide +kernel
  rw [cc0__body_eq_skeleton]
  unfold cc0__body_skel
  refine part_step (front m fun f v0 v29 v37 h29 h37 hf => ?_)
  subst h29 h37
  refine fill_step m 2 ?_ hf (fun hs hJ => ?_) (fun f hf => ?_)
  · exact sge_iff 2 rfl
  · refine comp_strip m 2 (by clear * - i; revert i; decide +kernel) fun _ => ?_
    exact comp_store m 2 (by clear * - i; revert i; decide +kernel) (chunk_fill 2 hs) hf.1 hJ
  beta_reduce
  refine comp_end m (by clear * - i; revert i; decide +kernel) ?_
  refine hit_step m 3 ?_ hf (fun hs hJ => ?_) (fun f hf => ?_)
  · exact slt_iff 3 ht3
  · refine comp_ends m ?_
    refine comp_products m ?_
    refine comp_keys m 3 rfl ?_
    refine comp_strip m 3 (by clear * - i; revert i; decide +kernel) fun _ => ?_
    exact comp_store m 3 (by clear * - i; revert i; decide +kernel) (chunk_hit 3 ht3 hs) hf hJ
  beta_reduce
  refine comp_end m (by clear * - i; revert i; decide +kernel) ?_
  refine fill_step m 3 ?_ hf (fun hs hJ => ?_) (fun f hf => ?_)
  · exact sge_iff 3 ht3
  · refine comp_strip m 3 (by clear * - i; revert i; decide +kernel) fun _ => ?_
    exact comp_store m 3 (by clear * - i; revert i; decide +kernel) (chunk_fill 3 hs) hf.1 hJ
  have hg : ∀ (r : Fin 64) (t : Fin 8192), f (ix3 (half (i 0)) r t : S2x64x8192.Idx) = G (ix2 (rowOf m c (i 0) r) t : S512x8192.Idx) :=
    fun r t => (hf r t (by have := t.isLt; show t.val < 2048 * (3 + 1); omega)).trans (hG r t).symm
  beta_reduce
  rw [dif_pos h11]
  refine upd_step (found_of_comp m) ?_
  iterate 4
    refine part_step ?_
    iterate 3
      refine load_step m (by decide) (by clear * - i; revert i; decide +kernel) ?_
      refine assume_step (fun _ => row_fits (word_lt m c _ _)) ?_
      refine send_step m (by decide) (by clear * - i; revert i; decide +kernel) rfl (by clear * - i; revert i; decide +kernel) hg ?_
    refine load_step m (by decide) (by clear * - i; revert i; decide +kernel) ?_
    refine assume_step (fun _ => row_fits (word_lt m c _ _)) ?_
    refine ret_step ?_
    refine part_step ?_
    refine send_step m (by decide) (by clear * - i; revert i; decide +kernel) rfl (by clear * - i; revert i; decide +kernel) hg ?_
    iterate 3
      refine load_step m (by decide) (by clear * - i; revert i; decide +kernel) ?_
      refine assume_step (fun _ => row_fits (word_lt m c _ _)) ?_
      refine send_step m (by decide) (by clear * - i; revert i; decide +kernel) rfl (by clear * - i; revert i; decide +kernel) hg ?_
    refine load_step m (by decide) (by clear * - i; revert i; decide +kernel) ?_
    refine assume_step (fun _ => row_fits (word_lt m c _ _)) ?_
    refine ret_step ?_
    refine part_step ?_
    refine send_step m (by decide) (by clear * - i; revert i; decide +kernel) rfl (by clear * - i; revert i; decide +kernel) hg ?_
    iterate 3
      refine load_step m (by decide) (by clear * - i; revert i; decide +kernel) ?_
      refine assume_step (fun _ => row_fits (word_lt m c _ _)) ?_
      refine send_step m (by decide) (by clear * - i; revert i; decide +kernel) rfl (by clear * - i; revert i; decide +kernel) hg ?_
    refine ret_step ?_
    refine part_step ?_
    iterate 4
      refine load_step m (by decide) (by clear * - i; revert i; decide +kernel) ?_
      refine assume_step (fun _ => row_fits (word_lt m c _ _)) ?_
      refine send_step m (by decide) (by clear * - i; revert i; decide +kernel) rfl (by clear * - i; revert i; decide +kernel) hg ?_
    refine ret_step ?_
  refine part_step ?_
  iterate 3
    refine load_step m (by decide) (by clear * - i; revert i; decide +kernel) ?_
    refine assume_step (fun _ => row_fits (word_lt m c _ _)) ?_
    refine send_step m (by decide) (by clear * - i; revert i; decide +kernel) rfl (by clear * - i; revert i; decide +kernel) hg ?_
  refine load_step m (by decide) (by clear * - i; revert i; decide +kernel) ?_
  refine assume_step (fun _ => row_fits (word_lt m c _ _)) ?_
  refine ret_step ?_
  refine send_step m (by decide) (by clear * - i; revert i; decide +kernel) rfl (by clear * - i; revert i; decide +kernel) hg ?_
  refine BIBase.Entails.trans (flush_end m) ?_
  refine dif_step (Found m c i a4 a5 a6 a7 X4 X5 X6 X7 iprop(((c : Thread nD τ).loc main_call0_v29 ↦{fullShare.right} V m c main_call0_v29)
    ∗ After m c G (i 0).val ∗ (∃ W, owes (c : Thread nD τ) 0 W) ∗ R)) (fun _ => rfl) (ret_step .rfl) (fun h12 hJ => ?_) (fun h12 => ?_)
  · have e : (i 0).val = 7 := by clear * - h12; revert h12; revert i; decide +kernel
    refine BIBase.Entails.trans (last_ready m e) ?_
    refine part_step ?_
    iterate 12
      refine part_step ?_
      iterate 5 refine wait_step m (by decide) rfl ?_
      refine ret_step ?_
    refine part_step ?_
    iterate 4 refine wait_step m (by decide) rfl ?_
    refine upd_step (last_swap m) ?_
    refine wait_step m (by decide) rfl ?_
    refine ret_step ?_
    iterate 12
      refine part_step ?_
      iterate 5 refine wait_step m (by decide) rfl ?_
      refine ret_step ?_
    iterate 2 refine wait_step m (by decide) rfl ?_
    refine ret_step ?_
    refine wait_step m (by decide) rfl ?_
    exact upd_step (last_done m e) hJ
  · have e : (i 0).val ≠ 7 := by clear * - h12; revert h12; revert i; decide +kernel
    exact others_done m e

end Cert.KernelIdeal.Hand
-- ==== Proof.Grid.lean ====
/-
  The grid's invariant, and what the launch hands it and takes back.
-/
module

public import proofs.«01_k».proof.Proof.Body
public import proofs.«01_k».proof.Proof.Gen.KernelIdeal.Launch
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

variable (m : (ℓ : Loc nD τ sig) → Buf (Elt F) ℓ)

/-! ## The tables and the windows' blocks -/

/-- The two tables when the region is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The tables as the pipeline takes them: no index map reads them, so there is no condition. -/
abbrev adm : (pcfg0 (F := F)).Adm := ⟨tbl m, trivial⟩

abbrev cfgM : Pipeline.Cfg sig Λ₀ := cfg0 (adm m)

/-- A window's block at a grid point, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The grid point of a block. -/
def pt (q : Fin 8) : Fin grid0.N := ⟨q.val, by rw [N_0]; exact q.isLt⟩

theorem pt_coords (t : Fin grid0.N) : pt (grid0.coords t 0) = t := by
  revert t; decide +kernel

theorem coords_val (t : Fin grid0.N) : (grid0.coords t 0).val = t.val := by
  revert t; decide +kernel

/-- What the kernel leaves in the result's row at place `p`, at position `t`. -/
def placed (c : Dev nD) (p : Fin 512) (t : Fin 8192) : Elt F .f32 :=
  finished (lastEnd m c ⟨p.val / 64, by have := p.isLt; omega⟩) (iblk m c 3 (pt ⟨p.val / 64, by have := p.isLt; omega⟩))
    (k0_pay4 (iblk m c 0 (pt ⟨p.val / 64, by have := p.isLt; omega⟩)) (iblk m c 1 (pt ⟨p.val / 64, by have := p.isLt; omega⟩)))
    (iblk m c 2 (pt ⟨p.val / 64, by have := p.isLt; omega⟩)) (⟨p.val % 64, Nat.mod_lt _ (by decide)⟩ : Fin 64) t

theorem placed_eq (c : Dev nD) (p : Fin 512) (q : Fin 8) (r : Fin 64) (t : Fin 8192) (hq : p.val / 64 = q.val) (hr : p.val % 64 = r.val) :
    placed m c p t = finished (lastEnd m c q) (iblk m c 3 (pt q)) (k0_pay4 (iblk m c 0 (pt q)) (iblk m c 1 (pt q))) (iblk m c 2 (pt q)) r t := by
  obtain ⟨q, hq'⟩ := q
  obtain ⟨r, hr'⟩ := r
  subst hq hr
  rfl

/-- What the kernel leaves in the result. -/
def G (c : Dev nD) : Buf (Elt F) ((c : Thread nD τ).loc main_v0) := fun x : S512x8192.Idx => placed m c (Order.places (ends m c) (x 0)) (x 1)

theorem G_row (c : Dev nD) (q : Fin 8) (r : Fin 64) (t : Fin 8192) :
    G m c (ix2 (rowOf m c q r) t : S512x8192.Idx)
      = finished (lastEnd m c q) (iblk m c 3 (pt q)) (k0_pay4 (iblk m c 0 (pt q)) (iblk m c 1 (pt q))) (iblk m c 2 (pt q)) r t := by
  have hp : Order.places (ends m c) (rowOf m c q r) = rowIx q r := (Order.places (ends m c)).apply_symm_apply (rowIx q r)
  refine Eq.trans (congrArg (fun p => placed m c p t) hp) (placed_eq m c _ q r t ?_ ?_)
  · show (q.val * 64 + r.val) / 64 = q.val; omega
  · show (q.val * 64 + r.val) % 64 = r.val; omega

/-- Two conjuncts listed. -/
theorem pair_of (Φ : Fin 2 → sProp 𝕄) : bigSep Finset.univ Φ = iprop(Φ 0 ∗ Φ 1) :=
  bigSep_univ_eq_bigSepL [(0 : Fin 2), (1 : Fin 2)] (by decide) (by decide) Φ

/-! ## The result as its blocks -/

/-- The blocks of the result still to be computed at point `n`. -/
def Ahead (c : Dev nD) (n : ℕ) : sProp 𝕄 :=
  bigSep (Finset.univ.filter fun q : Fin 8 => n ≤ q.val) (Block m c (V m c main_v0))

theorem ahead_step {c : Dev nD} (p : Fin 8) {n : ℕ} (h : n = p.val) : Ahead m c n = iprop(Block m c (V m c main_v0) p ∗ Ahead m c (n + 1)) := by
  subst h
  unfold Ahead
  refine Eq.trans (congrArg (fun s => bigSep s (Block m c (V m c main_v0))) ?_) (bigSep_insert (i := p) (by simp))
  ext x
  simp only [Finset.mem_filter, Finset.mem_univ, true_and, Finset.mem_insert, Fin.ext_iff]
  omega

/-- The result's rows, block by block, are disjoint and are all of it. -/
theorem block_set (c : Dev nD) (q : Fin 8) (g : Buf (Elt F) ((c : Thread nD τ).loc main_v0)) :
    Block m c g q = ((c : Thread nD τ).loc main_v0 ↦[Finset.univ.biUnion fun r => outRow (rowOf m c q r)]{fullShare} g : sProp 𝕄) := by
  unfold Block
  refine (pointsTo_biUnion (ℓ := (c : Thread nD τ).loc main_v0) _ _ fun r _ r' _ hne => Finset.disjoint_left.mpr fun x hx hx' => hne ?_).symm
  have e : rowIx q r = rowIx q r' :=
    Order.rowAt_injective (ends m c) (Fin.ext ((mem_outRow.mp hx).symm.trans (mem_outRow.mp hx')))
  have e' := congrArg Fin.val e
  exact Fin.ext (by simp only [rowIx] at e'; omega)

theorem rows_all (c : Dev nD) :
    (Finset.univ.biUnion fun q : Fin 8 => Finset.univ.biUnion fun r : Fin 64 => outRow (rowOf m c q r)) = (Finset.univ : Finset S512x8192.Idx) := by
  ext x
  refine ⟨fun _ => Finset.mem_univ _, fun _ => ?_⟩
  obtain ⟨p, hp⟩ := Order.rowAt_surjective (ends m c) (x 0)
  have hl := p.isLt
  refine Finset.mem_biUnion.mpr ⟨⟨p.val / 64, by omega⟩, Finset.mem_univ _, Finset.mem_biUnion.mpr ⟨⟨p.val % 64, Nat.mod_lt _ (by decide)⟩, Finset.mem_univ _, ?_⟩⟩
  refine mem_outRow.mpr ?_
  have e : rowIx ⟨p.val / 64, by omega⟩ ⟨p.val % 64, Nat.mod_lt _ (by decide)⟩ = p := Fin.ext (by show p.val / 64 * 64 + p.val % 64 = p.val; omega)
  unfold rowOf
  rw [e, hp]

theorem blocks_disjoint (c : Dev nD) : ∀ q ∈ (Finset.univ : Finset (Fin 8)), ∀ q' ∈ (Finset.univ : Finset (Fin 8)), q ≠ q' →
    Disjoint (Finset.univ.biUnion fun r : Fin 64 => outRow (rowOf m c q r)) (Finset.univ.biUnion fun r : Fin 64 => outRow (rowOf m c q' r)) := by
  intro q _ q' _ hne
  refine Finset.disjoint_left.mpr fun x hx hx' => hne ?_
  obtain ⟨r, -, hr⟩ := Finset.mem_biUnion.mp hx
  obtain ⟨r', -, hr'⟩ := Finset.mem_biUnion.mp hx'
  have e : rowIx q r = rowIx q' r' :=
    Order.rowAt_injective (ends m c) (Fin.ext ((mem_outRow.mp hr).symm.trans (mem_outRow.mp hr')))
  have e' := congrArg Fin.val e
  have h1 := r.isLt
  have h2 := r'.isLt
  exact Fin.ext (by simp only [rowIx] at e'; omega)

theorem result_blocks (c : Dev nD) (g : Buf (Elt F) ((c : Thread nD τ).loc main_v0)) :
    ((c : Thread nD τ).loc main_v0 ↦{fullShare} g : sProp 𝕄) = bigSep Finset.univ (Block m c g) := by
  rw [show (Block m c g : Fin 8 → sProp 𝕄) = fun q => ((c : Thread nD τ).loc main_v0 ↦[Finset.univ.biUnion fun r => outRow (rowOf m c q r)]{fullShare} g : sProp 𝕄)
    from funext fun q => block_set m c q g]
  exact (congrArg (fun S => ((c : Thread nD τ).loc main_v0 ↦[S]{fullShare} g : sProp 𝕄)) (rows_all m c)).symm.trans
    (pointsTo_biUnion (ℓ := (c : Thread nD τ).loc main_v0) _ _ (blocks_disjoint m c))

/-- Before the first point every block is still to be computed and none has landed; after the last all have landed. -/
theorem ahead_zero (c : Dev nD) : Ahead m c 0 = ((c : Thread nD τ).loc main_v0 ↦{fullShare} V m c main_v0 : sProp 𝕄) := by
  rw [result_blocks m]
  unfold Ahead
  simp

theorem landed_zero (c : Dev nD) (g : Buf (Elt F) ((c : Thread nD τ).loc main_v0)) : Landed m c g 0 = (BI.emp : sProp 𝕄) := by
  unfold Landed
  simp

theorem landed_all (c : Dev nD) (g : Buf (Elt F) ((c : Thread nD τ).loc main_v0)) : Landed m c g 10 = ((c : Thread nD τ).loc main_v0 ↦{fullShare} g : sProp 𝕄) := by
  rw [result_blocks m]
  unfold Landed
  congr 1

/-! ## The scratch as its halves -/

theorem scratch_split (c : Dev nD) (f : Buf (Elt F) ((c : Thread nD τ).loc cc0_scratch1)) :
    ((c : Thread nD τ).loc cc0_scratch1 ↦{fullShare} f : sProp 𝕄)
      = iprop(((c : Thread nD τ).loc cc0_scratch1 ↦[halfSet 0]{fullShare} f) ∗ ((c : Thread nD τ).loc cc0_scratch1 ↦[halfSet 1]{fullShare} f)) := by
  exact ((congrArg (fun S => ((c : Thread nD τ).loc cc0_scratch1 ↦[S]{fullShare} f : sProp 𝕄)) halves).symm.trans
    (pointsTo_biUnion (ℓ := (c : Thread nD τ).loc cc0_scratch1) _ _ halves_disjoint)).trans (pair_of _)

theorem idle_start (c : Dev nD) :
    iprop(semVal (c, SemLoc.dma (cell 0)) 0 ∗ semVal (c, SemLoc.dma (cell 1)) 0 ∗ (∃ f, ((c : Thread nD τ).loc cc0_scratch1 ↦{fullShare} f)))
      ⊢ (iprop(Idle c 0 ∗ Idle c 1) : sProp 𝕄) := by
  unfold Idle
  iintro ⟨H0, H1, ⟨%f, HS⟩⟩
  ihave HS' := (Entails.of_eq (scratch_split c f)) $$ HS
  icases HS' with ⟨HA, HB⟩
  isplitl [H0 HA]
  · isplitl [H0]; · iexact H0
    iexists f; iexact HA
  isplitl [H1]; · iexact H1
  iexists f; iexact HB

theorem idle_end (c : Dev nD) :
    (iprop(Idle c 0 ∗ Idle c 1) : sProp 𝕄)
      ⊢ iprop(semVal (c, SemLoc.dma (cell 0)) 0 ∗ semVal (c, SemLoc.dma (cell 1)) 0 ∗ (∃ f, ((c : Thread nD τ).loc cc0_scratch1 ↦{fullShare} f))) := by
  unfold Idle
  iintro ⟨⟨H0, ⟨%f, HA⟩⟩, ⟨H1, ⟨%g, HB⟩⟩⟩
  isplitl [H0]; · iexact H0
  isplitl [H1]; · iexact H1
  ihave HS := pointsTo_biUnion_join (ℓ := (c : Thread nD τ).loc cc0_scratch1) (q := fullShare) Finset.univ halfSet ![f, g] f halves_disjoint $$ [HA HB]
  · iapply (Entails.of_eq (pair_of (fun b : Fin 2 => ((c : Thread nD τ).loc cc0_scratch1 ↦[halfSet b]{fullShare} (![f, g] : Fin 2 → _) b : sProp 𝕄))).symm)
    isplitl [HA]; · iexact HA
    iexact HB
  icases HS with ⟨%h, -, HS⟩
  iexists h
  rw [halves]
  iexact HS

/-! ## The invariant -/

/-- What lies between grid points, before point `n`. -/
def Between (c : Dev nD) (n : ℕ) : sProp 𝕄 :=
  if n = 8 then iprop(Idle c 0 ∗ Idle c 1 ∗ Landed m c (G m c) 10)
  else iprop(Slot m c (G m c) n ∗ Slot m c (G m c) (n + 1) ∗ Landed m c (G m c) n ∗ Ahead m c n)

/-- The grid's invariant. -/
def Inv (c : Dev nD) (n : ℕ) : sProp 𝕄 :=
  iprop((∃ Y, owns (c : Thread nD τ) (Memref.whole cc0_scratch0) fullShare Y) ∗ (∃ r, prngReg c r)
    ∗ ((c : Thread nD τ).loc main_call0_v29 ↦{fullShare.right} V m c main_call0_v29)
    ∗ ((c : Thread nD τ).loc main_call0_v61 ↦{fullShare.right} V m c main_call0_v61) ∗ Between m c n)

/-- The kernel's own semaphore cells. -/
abbrev osem : Fin 2 → SemLoc sig := ![SemLoc.dma 7, SemLoc.dma 8]

theorem own_cells (c : Dev nD) : (Pipeline.ownSems0 (Ix := Unit) (Name := ℕ) (U := Pipeline.UD sig nD τ) (Lvl := ℕ) (Val := Elt F) (τ := τ) osem c : sProp 𝕄)
    = iprop(semVal (c, SemLoc.dma (cell 0)) 0 ∗ semVal (c, SemLoc.dma (cell 1)) 0) := by
  rw [Pipeline.ownSems0_eq_of_list c osem [0, 1] (by decide) (by decide)]
  rfl

theorem tables (c : Dev nD) : (Pipeline.ΦT pre0 (tbl m) c : sProp 𝕄)
    = iprop(((c : Thread nD τ).loc main_call0_v29 ↦{fullShare.right} V m c main_call0_v29)
      ∗ ((c : Thread nD τ).loc main_call0_v61 ↦{fullShare.right} V m c main_call0_v61)) := by
  unfold Pipeline.ΦT Pipeline.prefHeld
  rw [show (tbl m : pre0.Contents (Elt F)) = fun j => V m c (pre0.ref j) from funext fun j => (V_pre m c j).symm]
  exact pair_of _

theorem routed_result (c : Dev nD) (W : (b : Ref sig .tc) → Buf (Elt F) ((c : Thread nD τ).loc b)) :
    (Pipeline.routed {main_v0} c W : sProp 𝕄) = ((c : Thread nD τ).loc main_v0 ↦{fullShare} W main_v0) := by
  unfold Pipeline.routed
  rw [bigSep_singleton]

/-- Each buffer at the end: the result at what the kernel leaves, the others as the region found them. -/
def Gs (c : Dev nD) : (b : Ref sig .tc) → Buf (Elt F) ((c : Thread nD τ).loc b) := Function.update (V m c) main_v0 (G m c)

theorem enter (c : Dev nD) : iprop(Pipeline.ΦDRG osem spec0 ∅ {main_v0} (V m) (V m) c ∗ Pipeline.ΦT pre0 (tbl m) c) ⊢ (Inv m c 0 : sProp 𝕄) := by
  rw [Pipeline.ΦDRG_eq, scopedRest0_eq, own_cells, routed_result, tables, bigSep_empty]
  unfold Inv Between
  rw [if_neg (by decide), show Slot m c (G m c) 0 = Idle c 0 from slot_idle m 0 rfl, show Slot m c (G m c) (0 + 1) = Idle c 1 from slot_idle m 1 rfl, landed_zero, ahead_zero]
  simp only [owns_whole]
  iintro ⟨⟨⟨HY, HS⟩, HP, ⟨H0, H1⟩, -, HR⟩, HT, HE⟩
  ihave HI := (idle_start (F := F) c) $$ [H0 H1 HS]
  · isplitl [H0]; · iexact H0
    isplitl [H1]; · iexact H1
    iexact HS
  icases HI with ⟨HA, HB⟩
  isplitl [HY]; · iexact HY
  isplitl [HP]; · iexact HP
  isplitl [HT]; · iexact HT
  isplitl [HE]; · iexact HE
  isplitl [HA]; · iexact HA
  isplitl [HB]; · iexact HB
  isplitr
  · iempintro
  iexact HR

theorem leave (c : Dev nD) : (Inv m c 8 : sProp 𝕄) ⊢ Pipeline.ΦDRG osem spec0 ∅ {main_v0} (V m) (Gs m) c := by
  rw [Pipeline.ΦDRG_eq, scopedRest0_eq, own_cells, routed_result, bigSep_empty]
  unfold Inv Between
  rw [if_pos rfl, landed_all, show Gs m c main_v0 = G m c from Function.update_self ..]
  simp only [owns_whole]
  iintro ⟨HY, HP, -, -, HA, HB, HR⟩
  ihave HI := (idle_end (F := F) c) $$ [HA HB]
  · isplitl [HA]; · iexact HA
    iexact HB
  icases HI with ⟨H0, H1, HS⟩
  isplitl [HY HS]
  · isplitl [HY]; · iexact HY
    iexact HS
  isplitl [HP]; · iexact HP
  isplitl [H0 H1]
  · isplitl [H0]; · iexact H0
    iexact H1
  isplitr
  · iempintro
  iexact HR

end Cert.KernelIdeal.Hand
-- ==== Proof.Run.lean ====
/-
  The launch of the kernel: the body at every grid point carries the grid's invariant, so the program ends with the result
  at `G`, the arguments as they were and every semaphore at zero.
-/
module

public import proofs.«01_k».proof.Proof.Grid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-- The resources the proof speaks of: the machine's, beside the pipeline library's and the transfers' counters. -/
local notation "𝕄" => MT nD τ sig Unit (Elt F) ℕ (Pipeline.UD sig nD τ) ℕ

variable (m : (ℓ : Loc nD τ sig) → Buf (Elt F) ℓ)
variable (ρ : Dev nD → PrngReg)

/-- The proof's data: each window's array at the host operations' contents, its block left as fetched, the invariant `Inv`. -/
def dats (_ : Fin 1) (c : Dev nD) : Dat τ (Elt F) Unit ℕ (Pipeline.UD sig nD τ) ℕ (cfgM m) c where
  A w := V m c (Pipeline.arrRef spec0 w)
  after w t := iblk m c w t
  Φ t := Inv m c t.val
  q _ := fullShare
  owed _ := 0

theorem A_eq (c : Dev nD) (w : Fin (cfgM m).W) : (dats m 0 c).A w = V m c (Pipeline.arrRef spec0 w) := by dsimp only [dats]

theorem after_eq (c : Dev nD) (w : Fin (cfgM m).W) (t : Fin (cfgM m).N) : (dats m 0 c).after w t = iblk m c w t := by dsimp only [dats]

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_eq]; unfold Dat.blockOf iblk; rw [A_eq]; try rfl) t d).trans (by unfold Dat.fetched Dat.blockOf iblk; rw [A_eq]; rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_eq]; unfold Dat.blockOf iblk; rw [A_eq]; try rfl) t d).trans (by unfold Dat.fetched Dat.blockOf iblk; rw [A_eq]; rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_eq]; unfold Dat.blockOf iblk; rw [A_eq]; try rfl) t d).trans (by unfold Dat.fetched Dat.blockOf iblk; rw [A_eq]; rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_eq]; unfold Dat.blockOf iblk; rw [A_eq]; try rfl) t d).trans (by unfold Dat.fetched Dat.blockOf iblk; rw [A_eq]; rfl)

abbrev st_0 (t : Fin (cfgM m).N) := ((cfgM m).win 0).stage ((cfgM m).slots t 0)
abbrev st_1 (t : Fin (cfgM m).N) := ((cfgM m).win 1).stage ((cfgM m).slots t 1)
abbrev st_2 (t : Fin (cfgM m).N) := ((cfgM m).win 2).stage ((cfgM m).slots t 2)
abbrev st_3 (t : Fin (cfgM m).N) := ((cfgM m).win 3).stage ((cfgM m).slots t 3)

/-- The body at a grid point. -/
def bodyAt (t : Fin (cfgM m).N) : Prog (TpuEff nD τ sig (Elt F) Λ₀ .tc) PUnit :=
  cc0__body (grid0.coords t) (Memref.whole main_call0_v29) (Memref.isWhole_whole _) (Memref.whole main_call0_v61) (Memref.isWhole_whole _)
    (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (st_3 m t) (hstage0_3 (((cfgM m).slots t 3).cast nbuf0_3))
    (Memref.whole main_v0) (Memref.isWhole_whole _) (Memref.whole cc0_scratch0) (Memref.isWhole_whole _)
    (Memref.whole cc0_scratch1) (Memref.isWhole_whole _) cc0_scratch2

theorem defs₀_row (t : Fin (cfgM m).N) :
    defs₀ (F := F) .tc (cfgM m).body ((cfgM m).bodyArgs t ((cfgM m).slots t)) = bodyAt m t := by
  unfold defs₀ bodyAt; rw [Defs.onTc_tc]; rfl

/-- What the windows' buffers hold round the body. -/
def Blocks (c : Dev nD) (t : Fin (cfgM m).N) (S : sProp 𝕄) : sProp 𝕄 :=
  iprop(owns (c : Thread nD τ) (st_0 m t) fullShare (iblk m c 0 t) ∗ owns (c : Thread nD τ) (st_1 m t) fullShare (iblk m c 1 t)
    ∗ owns (c : Thread nD τ) (st_2 m t) fullShare (iblk m c 2 t) ∗ owns (c : Thread nD τ) (st_3 m t) fullShare (iblk m c 3 t) ∗ S)

/-- The invariant opened before a point. -/
theorem open_point (c : Dev nD) (q : Fin 8) (n : ℕ) (h : n = q.val) : (Between m c n : sProp 𝕄)
    ⊢ iprop(Slot m c (G m c) q.val ∗ Slot m c (G m c) (q.val + 1) ∗ Landed m c (G m c) q.val ∗ Block m c (V m c main_v0) q ∗ Ahead m c (q.val + 1)) := by
  subst h
  have := q.isLt
  unfold Between
  rw [if_neg (by omega), ahead_step m q rfl]

/-- The invariant closed after a point. -/
theorem close_point (c : Dev nD) (q : Fin 8) : iprop(After m c (G m c) q.val ∗ Ahead m c (q.val + 1)) ⊢ (Between m c (q.val + 1) : sProp 𝕄) := by
  have := q.isLt
  unfold Between After
  by_cases h : q.val = 7
  · rw [if_pos h, if_pos (by omega)]
    iintro ⟨H, -⟩
    iexact H
  · rw [if_neg h, if_neg (by omega)]
    iintro ⟨⟨H1, H2, H3⟩, H4⟩
    isplitl [H1]; · iexact H1
    isplitl [H2]; · iexact H2
    isplitl [H3]; · iexact H3
    iexact H4

theorem sound (c : Dev nD) (t : Fin (cfgM m).N) :
    Blocks m c t iprop(Inv m c t.val ∗ (∃ W, owes (c : Thread nD τ) 0 W))
      ⊢ wp frame (wpE (defs₀ (F := F)) Variants.none (c : Thread nD τ) none) Set.univ (bodyAt m t)
          (fun _ => Blocks m c t iprop(Inv m c (t.val + 1) ∗ (∃ W, owes (c : Thread nD τ) 0 W))) := by
  have hv : (grid0.coords t 0).val = t.val := coords_val t
  have hp : pt (grid0.coords t 0) = t := pt_coords t
  have hb := body m (c := c) (G := G m c) (i := grid0.coords t) (R := iprop((∃ r, prngReg c r) ∗ Ahead m c (t.val + 1)))
    (a4 := st_0 m t) (ha4 := hstage0_0 (((cfgM m).slots t 0).cast nbuf0_0)) (a5 := st_1 m t) (ha5 := hstage0_1 (((cfgM m).slots t 1).cast nbuf0_1))
    (a6 := st_2 m t) (ha6 := hstage0_2 (((cfgM m).slots t 2).cast nbuf0_2)) (a7 := st_3 m t) (ha7 := hstage0_3 (((cfgM m).slots t 3).cast nbuf0_3))
    (X4 := iblk m c 0 t) (X5 := iblk m c 1 t) (X6 := iblk m c 2 t) (X7 := iblk m c 3 t)
    (fun r u => by have := G_row m c (grid0.coords t 0) r u; rw [hp] at this; exact this)
  unfold Wp at hb
  unfold bodyAt
  refine triple_restated hb rfl ?_ ?_
  · unfold Blocks Found Inv
    iintro ⟨H0, H1, H2, H3, ⟨HY, HP, HT, HE, HB⟩, HW⟩
    ihave HB' := (open_point m c (grid0.coords t 0) t.val hv.symm) $$ HB
    icases HB' with ⟨S0, S1, HL, HK, HA⟩
    isplitl [HE]; · iexact HE
    isplitl [H0]; · iexact H0
    isplitl [H1]; · iexact H1
    isplitl [H2]; · iexact H2
    isplitl [H3]; · iexact H3
    isplitl [HY]; · iexact HY
    isplitl [S0]; · iexact S0
    isplitl [HL]; · iexact HL
    isplitl [HW]; · iexact HW
    isplitl [HK]; · iexact HK
    isplitl [HT]; · iexact HT
    isplitl [S1]; · iexact S1
    isplitl [HP]; · iexact HP
    rw [← hv]
    iexact HA
  · intro _
    unfold Blocks Found Inv
    rw [← hv]
    iintro ⟨HE, H0, H1, H2, H3, HY, HT, HF, HW, HP, HA⟩
    ihave HB := (close_point m c (grid0.coords t 0)) $$ [HF HA]
    · isplitl [HF]; · iexact HF
      iexact HA
    isplitl [H0]; · iexact H0
    isplitl [H1]; · iexact H1
    isplitl [H2]; · iexact H2
    isplitl [H3]; · iexact H3
    isplitr [HW]
    · isplitl [HY]; · iexact HY
      isplitl [HP]; · iexact HP
      isplitl [HT]; · iexact HT
      isplitl [HE]; · iexact HE
      iexact HB
    iexact HW

/-- The obligation at a point, its four windows listed. -/
def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d)) ∗ (∃ d, owns (c : Thread nD τ) (st_1 m t) fullShare ((dats m 0 c).before 1 t d))
    ∗ (∃ d, owns (c : Thread nD τ) (st_2 m t) fullShare ((dats m 0 c).before 2 t d)) ∗ (∃ d, owns (c : Thread nD τ) (st_3 m t) fullShare ((dats m 0 c).before 3 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t) ∗ owns (c : Thread nD τ) (st_1 m t) fullShare ((dats m 0 c).after 1 t)
    ∗ owns (c : Thread nD τ) (st_2 m t) fullShare ((dats m 0 c).after 2 t) ∗ owns (c : Thread nD τ) (st_3 m t) fullShare ((dats m 0 c).after 3 t))

theorem sound_body (c : Dev nD) (t : Fin (cfgM m).N) :
    bodyPre m c t ⊢ wp frame (wpE (defs₀ (F := F)) Variants.none (c : Thread nD τ) none) Set.univ (bodyAt m t) (fun _ => bodyPost m c t) := by
  refine triple_restated (sound m c t) rfl ?_ ?_
  · unfold bodyPre Blocks
    rw [show (dats m 0 c).Φ t.castSucc = Inv m c t.val from rfl]
    unfold Dat.owesAt Pipeline.owesWithin
    rw [show (dats m 0 c).owed t.castSucc = 0 from rfl]
    simp only [before_0, before_1, before_2, before_3]
    iintro ⟨HI, ⟨%W, -, HW⟩, ⟨%d0, H0⟩, ⟨%d1, H1⟩, ⟨%d2, H2⟩, ⟨%d3, H3⟩⟩
    isplitl [H0]; · iexact H0
    isplitl [H1]; · iexact H1
    isplitl [H2]; · iexact H2
    isplitl [H3]; · iexact H3
    isplitl [HI]; · iexact HI
    iexists W; iexact HW
  · intro _
    unfold bodyPost Blocks
    rw [show (dats m 0 c).Φ t.succ = Inv m c (t.val + 1) from rfl]
    unfold Dat.owesAt Pipeline.owesWithin
    rw [show (dats m 0 c).owed t.succ = 0 from rfl]
    simp only [after_eq]
    iintro ⟨H0, H1, H2, H3, HI, ⟨%W, HW⟩⟩
    isplitl [HI]; · iexact HI
    isplitl [HW]
    · iexists W; isplitr; · ipureintro; exact fun _ _ => Or.inl trivial
      iexact HW
    isplitl [H0]; · iexact H0
    isplitl [H1]; · iexact H1
    isplitl [H2]; · iexact H2
    iexact H3

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem own_facts : Pipeline.OwnSemFacts spec0 osem := by decide

theorem result_sub : ({main_v0} : Finset (Ref sig .tc)) ⊆ Pipeline.restRefsP sig pre0 spec0 \ ∅ := by decide

set_option backward.isDefEq.respectTransparency.types false in
theorem run_main : θ_run defs (onTc (τ := τ) (main (F := F))) ⟨m, fun _ => 0, ρ⟩
    (fun r => Pipeline.FramePostRG (Pipeline.pin pcfgs fun _ => adm m) (dats m) 0 {main_v0} (V m) (Gs m) r ∧ r.2.sem = fun _ => 0) :=
  Pipeline.θ_run_frameP_dmaRG (Q' := _) pcfgs (fun _ => adm m) (dats m) (0 : Fin 1) launch0 osem defs₀ Variants.none own_facts ∅ {main_v0}
    (Finset.empty_subset _) result_sub m ρ main
    (hbody := fun c => (body_obligation m c).loose) (hshare := fun c => (dats m 0 c).share_full fun _ => rfl)
    (howed := fun _ _ => rfl) (V := V m) (hmain := hmain m Variants.none) (hA := A_eq m) (hpf := V_pre m) (G := Gs m)
    (hin := enter m) (hout := leave m)

theorem args_kept (r : PUnit × MemSt nD τ sig (Elt F)) (h : Pipeline.FramePostRG (Pipeline.pin pcfgs fun _ => adm m) (dats m) 0 {main_v0} (V m) (Gs m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  obtain ⟨h0, h1, h2, h3, h4⟩ := V_args m c
  have hr := (h.toR c).2
  refine ⟨?_, ?_, ?_, ?_, ?_⟩
  · exact (hr main_arg0 (Finset.mem_sdiff.mpr ⟨Pipeline.mem_restRefs_of (win := spec0) main_arg0 (by decide) (by decide), by decide⟩)).trans h0
  · exact (hr main_arg1 (Finset.mem_sdiff.mpr ⟨Pipeline.mem_restRefs_of (win := spec0) main_arg1 (by decide) (by decide), by decide⟩)).trans h1
  · exact (hr main_arg2 (Finset.mem_sdiff.mpr ⟨Pipeline.mem_restRefs_of (win := spec0) main_arg2 (by decide) (by decide), by decide⟩)).trans h2
  · exact (hr main_arg3 (Finset.mem_sdiff.mpr ⟨Pipeline.mem_restRefs_of (win := spec0) main_arg3 (by decide) (by decide), by decide⟩)).trans h3
  · exact (hr main_arg4 (Finset.mem_sdiff.mpr ⟨Pipeline.mem_restRefs_of (win := spec0) main_arg4 (by decide) (by decide), by decide⟩)).trans h4

/-- Every run keeps the arguments and ends with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨args_kept m r h.1, h.2⟩) (run_main m ρ)

/-- Every run ends with the result at `G` and keeps the arguments. -/
theorem value : θ_run defs (onTc (τ := τ) (main (F := F))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h.1.written c (Finset.mem_singleton_self _)).trans (Function.update_self ..), args_kept m r h.1 c⟩) (run_main m ρ)

end Cert.KernelIdeal.Hand
-- ==== Proof.Scores.lean ====
/-
  What the body computes, over the extended reals: a chunk's scores as sums, and the weight carried out of the rectifier.
-/
module

public import proofs.«01_k».proof.Proof.Compute
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers
open Idealize.ShloMosaic.ValueIdx (contrEquiv1 eq_zero_of_ne_one)

/-! ## The weight and the rectifier -/

/-- A finite weight that is not negative comes out of a sum. -/
theorem sum_mul_weight {ι : Type} (s : Finset ι) (f : ι → EReal) {w : EReal} (h0 : 0 ≤ w) (h1 : w ≠ ⊤) :
    ∑ i ∈ s, f i * w = (∑ i ∈ s, f i) * w := by
  classical
  induction s using Finset.induction_on with
  | empty => simp
  | insert i s hi ih =>
    rw [Finset.sum_insert hi, Finset.sum_insert hi, ih, EReal.right_distrib_of_nonneg_of_ne_top h0 h1]

/-- A finite weight that is not negative comes out of the rectified product. -/
theorem relu_weight {ι : Type} (s : Finset ι) (q k : ι → EReal) {w : EReal} (h0 : 0 ≤ w) (h1 : w ≠ ⊤) :
    max (∑ i ∈ s, q i * w * k i) 0 = max (∑ i ∈ s, q i * k i) 0 * w := by
  rw [show (∑ i ∈ s, q i * w * k i) = (∑ i ∈ s, q i * k i) * w from
    (Finset.sum_congr rfl fun i _ => mul_right_comm (q i) w (k i)).trans (sum_mul_weight s _ h0 h1)]
  rcases le_total (∑ i ∈ s, q i * k i) 0 with h | h
  · rw [max_eq_right h, zero_mul]
    exact max_eq_right (by rw [mul_comm]; exact EReal.mul_nonpos_iff.mpr (Or.inl ⟨h0, h⟩))
  · rw [max_eq_left h]
    exact max_eq_left (mul_nonneg h h0)

/-! ## The operations at an index -/

/-- A row of the products: head `h`, row `r`. -/
def headRow (h : Fin 32) (r : Fin 64) : Fin 2048 := ⟨h.val * 64 + r.val, by omega⟩

theorem cast_q {α : Type} (x : S1x32x64x128.Idx → α) (h : Fin 32) (r : Fin 64) (d : Fin 128) :
    shapeCast S2048x128 x shapeCasts_S1x32x64x128_S2048x128 (ix2 (headRow h r) d) = x (ix4 (0 : Fin 1) h r d) :=
  shapeCast_apply x _ _ _ (by
    rw [Shape.rowMajor_val_four, Shape.rowMajor_val_two]
    show ((0 * 32 + h.val) * 64 + r.val) * 128 + d.val = (h.val * 64 + r.val) * 128 + d.val
    omega)

theorem cast_w {α : Type} (x : S1x32x64x1.Idx → α) (h : Fin 32) (r : Fin 64) :
    shapeCast S2048x1 x shapeCasts_S1x32x64x1_S2048x1 (ix2 (headRow h r) (0 : Fin 1)) = x (ix4 (0 : Fin 1) h r (0 : Fin 1)) :=
  shapeCast_apply x _ _ _ (by
    rw [Shape.rowMajor_val_four, Shape.rowMajor_val_two]
    show ((0 * 32 + h.val) * 64 + r.val) * 1 + 0 = (h.val * 64 + r.val) * 1 + 0
    omega)

theorem cast_self {α : Type} {s : Shape} (x : s.Idx → α) (h : s.ShapeCasts s) : shapeCast s x h = x :=
  funext fun j => shapeCast_apply x h _ _ rfl

/-- The products' row, over the extended reals. -/
theorem products_at (X4 : Vec Ideal S1x32x64x128 .bf16) (X5 : Vec Ideal S1x32x64x1 .bf16) (h : Fin 32) (r : Fin 64) (d : Fin 128) :
    (k0_pay4 X4 X5 : FVec Ideal S2048x128 .bf16) (ix2 (headRow h r) d)
      = (X4 (ix4 (0 : Fin 1) h r d) * X5 (ix4 (0 : Fin 1) h r (0 : Fin 1)) : EReal) := by
  unfold k0_pay4
  simp only [cast_self, ValueIdx.mulf_apply, cast_q]
  refine congrArg (fun y : EReal => (X4 (ix4 (0 : Fin 1) h r d) : EReal) * y) ?_
  refine (broadcastTo_apply _ _ (ix2 (headRow h r) d) (ix2 (headRow h r) (0 : Fin 1)) fun ax => ?_).trans (cast_w _ h r)
  match ax with
  | ⟨0, _⟩ => rfl
  | ⟨1, _⟩ => rfl

/-- The block product at an index. -/
theorem product_at (L R : FVec Ideal S2048x128 .bf16) (a b : Fin 2048) :
    matmul dot_S2048x128_S2048x128_S2048x2048_1_1_0_0_n_n none L R (constant S2048x2048 .f32 0x00000000#32) (ix2 a b)
      = ∑ d : Fin 128, (L (ix2 a d) * R (ix2 b d) : EReal) := by
  refine (Ideal.matmul_constant_zero_apply dot_S2048x128_S2048x128_S2048x2048_1_1_0_0_n_n none L R _).trans ?_
  refine (Equiv.sum_comp (contrEquiv1 dot_S2048x128_S2048x128_S2048x2048_1_1_0_0_n_n 128 rfl rfl).symm _).symm.trans ?_
  refine Finset.sum_congr rfl fun d _ => congrArg₂ (fun x y : EReal => x * y) (congrArg L ?_) (congrArg R ?_)
  · funext ax
    match ax with
    | ⟨0, _⟩ => rfl
    | ⟨1, _⟩ => rfl
  · funext ax
    match ax with
    | ⟨0, _⟩ => rfl
    | ⟨1, _⟩ => rfl

theorem cast_heads {α : Type} (x : S2048x2048.Idx → α) (h : Fin 32) (r : Fin 64) (u : Fin 2048) :
    shapeCast S32x64x2048 x shapeCasts_S2048x2048_S32x64x2048 (ix3 h r u) = x (ix2 (headRow h r) u) :=
  shapeCast_apply x _ _ _ (by
    rw [Shape.rowMajor_val_three, Shape.rowMajor_val_two]
    rfl)

theorem keys_at (K : Vec Ideal S8192x128 .bf16) (t : Fin 8192) (h₁ : t.val / 2048 < 4) (h₂ : t.val % 2048 < 2048) (d : Fin 128) :
    keysOf K ⟨t.val / 2048, h₁⟩ (ix2 (⟨t.val % 2048, h₂⟩ : Fin 2048) d) = K (ix2 t d) :=
  congrArg (fun p : Fin 8192 => K (ix2 p d))
    (Fin.ext (Nat.div_add_mod t.val 2048) : (⟨2048 * (t.val / 2048) + t.val % 2048, by have := t.isLt; omega⟩ : Fin 8192) = t)

theorem cast_lead {α : Type} (x : S64x2048.Idx → α) (r : Fin 64) (u : Fin 2048) :
    shapeCast S1x64x2048 x shapeCasts_S64x2048_S1x64x2048 (ix3 (0 : Fin 1) r u) = x (ix2 r u) :=
  shapeCast_apply x _ _ _ (by
    rw [Shape.rowMajor_val_three, Shape.rowMajor_val_two]
    show r.val * 2048 + u.val = (0 * 64 + r.val) * 2048 + u.val
    omega)

theorem bottom : (Scalar.ofBits .f32 0xFF800000#32 : Ideal .f32) = (⊥ : EReal) := by
  show Ideal.ofBits .f32 0xFF800000#32 = ⊥
  simp [Ideal.ofBits, Ideal.ieee]

/-- A chunk of scores at an index. -/
theorem score_at (t0 : BitVec 32) (e : Vec Ideal S64x1 .i32) (qw k : FVec Ideal S2048x128 .bf16) (r : Fin 64) (u : Fin 2048) :
    score t0 e qw k (ix3 (0 : Fin 1) r u)
      = Scalar.select (IntOp.cmpi .slt (t0 + BitVec.ofNat 32 u.val) (e (ix2 r (0 : Fin 1))))
          (∑ h : Fin 32, max (∑ d : Fin 128, (qw (ix2 (headRow h r) d) * k (ix2 u d) : EReal)) 0) (⊥ : EReal) := by
  unfold score
  refine (cast_lead _ r u).trans ?_
  rw [ValueIdx.select_apply]
  simp only [cast_self]
  refine congr (congrArg₂ Scalar.select ?_ ?_) bottom
  · refine congrArg₂ (IntOp.cmpi .slt) (congrArg (t0 + ·) ?_) ?_
    · rw [iota_apply]
      exact congrArg (BitVec.ofNat 32) (by show 0 * 2048 + u.val = u.val; omega)
    · refine broadcastTo_apply _ _ (ix2 r u) (ix2 r (0 : Fin 1)) fun ax => ?_
      match ax with
      | ⟨0, _⟩ => rfl
      | ⟨1, _⟩ => rfl
  · refine (Ideal.multiReduction_add_single _ _ _ _ _ _).trans (Finset.sum_congr rfl fun h _ => ?_)
    refine Eq.trans (congrArg _ (show _ = ix3 (h : Fin 32) r u from ?_)) ((cast_heads _ h r u).trans ?_)
    · funext ax
      match ax with
      | ⟨0, _⟩ => rfl
      | ⟨1, _⟩ => rfl
      | ⟨2, _⟩ => rfl
    · rw [ValueIdx.maximumf_apply, product_at]
      exact congrArg (max _) Ideal.ofBits_zero_f32

/-- A chunk past every end. -/
theorem skipped_at (r : Fin 64) (u : Fin 2048) : (k0_pay1 : FVec Ideal S1x64x2048 .f32) (ix3 (0 : Fin 1) r u) = (⊥ : EReal) := by
  unfold k0_pay1
  exact (cast_lead _ r u).trans bottom

/-- A block's finished rows, over the extended reals: position `t` of row `r` is the sum over heads of the rectified products
    when `t` is before the row's end, minus infinity otherwise. The chunks that are skipped start at or past the block's last
    end `s`, so past the row's. -/
theorem finished_at (s : BitVec 32) (e : Vec Ideal S64x1 .i32) (qw : FVec Ideal S2048x128 .bf16) (K : FVec Ideal S8192x128 .bf16) (r : Fin 64) (t : Fin 8192)
    (hs : (e (ix2 r (0 : Fin 1)) : BitVec 32).toInt ≤ s.toInt) :
    finished s e qw K r t = if ((t.val : ℕ) : ℤ) < (e (ix2 r (0 : Fin 1)) : BitVec 32).toInt
      then (∑ h : Fin 32, max (∑ d : Fin 128, (qw (ix2 (headRow h r) d) * K (ix2 t d) : EReal)) 0) else (⊥ : EReal) := by
  have ht := t.isLt
  have hd : 2048 * (t.val / 2048) + t.val % 2048 = t.val := Nat.div_add_mod _ _
  unfold finished chunk
  by_cases h : ((2048 * (t.val / 2048) : ℕ) : ℤ) < s.toInt
  · rw [if_pos h, score_at]
    have hw : BitVec.ofNat 32 (2048 * (t.val / 2048)) + BitVec.ofNat 32 (t.val % 2048) = BitVec.ofNat 32 t.val := by
      rw [← BitVec.ofNat_add, hd]
    have hv : (BitVec.ofNat 32 t.val).toInt = ((t.val : ℕ) : ℤ) := by
      rw [BitVec.toInt_eq_toNat_of_lt (by rw [BitVec.toNat_ofNat, Nat.mod_eq_of_lt (by omega)]; omega), BitVec.toNat_ofNat, Nat.mod_eq_of_lt (by omega)]
    show Scalar.select (IntOp.cmpi .slt (BitVec.ofNat 32 (2048 * (t.val / 2048)) + BitVec.ofNat 32 (t.val % 2048)) _) _ _ = _
    rw [hw]
    simp only [keys_at]
    rw [WordCmp.cmpi_slt_eq, hv]
    by_cases hlt : ((t.val : ℕ) : ℤ) < (e (ix2 r (0 : Fin 1)) : BitVec 32).toInt
    · rw [if_pos hlt, decide_eq_true hlt]
      rfl
    · rw [if_neg hlt, decide_eq_false hlt]
      rfl
  · rw [if_neg h, skipped_at, if_neg (by omega)]

end Cert.KernelIdeal.Hand
-- ==== Proof.Value.lean ====
/- Over the extended reals the result is, at every row and position, the reference's sum of rectified products: the blocks the
   windows bring in are the rows in their sorted places, and a finite weight that is not negative comes out of the rectifier. -/
module

public import proofs.«01_k».proof.Proof.Run
public import proofs.«01_k».proof.Proof.Scores

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable (m : (ℓ : Loc nD τ sig) → Buf (Elt Ideal) ℓ)

/-! ## The blocks at an index -/

theorem pt_coord (q : Fin 8) : (grid0.coords (pt q) 0).val = q.val := by
  revert q; decide +kernel

/-- The index maps that read the grid argument give the block's number. -/
theorem block_word (q : Fin 8) (n : ℕ) (o : ℕ) : (BitVec.ofNat 32 (grid0.coords (pt q) 0).val).toNat * n + o = q.val * n + o := by
  rw [pt_coord, BitVec.toNat_ofNat, Nat.mod_eq_of_lt (by have := q.isLt; omega)]

/-- The keys' index map gives the first block. -/
theorem key_word (q : Fin 8) (o : ℕ) : (BitVec.ofNat 32 (grid0.coords (pt q) 1).val).toNat * 8192 + o = o := by
  rw [show (grid0.coords (pt q) 1).val = 0 from by revert q; decide +kernel]
  exact Nat.zero_add o

/-- A block of the queries. -/
theorem block_q (c : Dev nD) (q : Fin 8) (h : Fin 32) (r : Fin 64) (d : Fin 128) :
    iblk m c 0 (pt q) (ix4 (0 : Fin 1) h r d) = V m c main_call0_v39 (ix4 q h r d) := by
  refine congrArg (V m c main_call0_v39) (funext fun a => Fin.ext ?_)
  match a with
  | ⟨0, _⟩ => exact (block_word q 1 (1 * 0)).trans (by show q.val * 1 + 1 * 0 = q.val; omega)
  | ⟨1, _⟩ => show 0 * 32 + 1 * h.val = h.val; omega
  | ⟨2, _⟩ => show 0 * 64 + 1 * r.val = r.val; omega
  | ⟨3, _⟩ => show 0 * 128 + 1 * d.val = d.val; omega

/-- A block of the weights. -/
theorem block_w (c : Dev nD) (q : Fin 8) (h : Fin 32) (r : Fin 64) :
    iblk m c 1 (pt q) (ix4 (0 : Fin 1) h r (0 : Fin 1)) = V m c main_call0_v50 (ix4 q h r (0 : Fin 1)) := by
  refine congrArg (V m c main_call0_v50) (funext fun a => Fin.ext ?_)
  match a with
  | ⟨0, _⟩ => exact (block_word q 1 (1 * 0)).trans (by show q.val * 1 + 1 * 0 = q.val; omega)
  | ⟨1, _⟩ => show 0 * 32 + 1 * h.val = h.val; omega
  | ⟨2, _⟩ => show 0 * 64 + 1 * r.val = r.val; omega
  | ⟨3, _⟩ => rfl

/-- The keys, which every block reads whole. -/
theorem block_k (c : Dev nD) (q : Fin 8) (t : Fin 8192) (d : Fin 128) :
    iblk m c 2 (pt q) (ix2 t d) = V m c main_call0_v51 (ix2 t d) := by
  refine congrArg (V m c main_call0_v51) (funext fun a => Fin.ext ?_)
  match a with
  | ⟨0, _⟩ => exact (key_word q (1 * t.val)).trans (by show 1 * t.val = t.val; omega)
  | ⟨1, _⟩ => show 0 * 128 + 1 * d.val = d.val; omega

/-- A block of the rows' ends. -/
theorem block_e (c : Dev nD) (q : Fin 8) (r : Fin 64) :
    iblk m c 3 (pt q) (ix2 r (0 : Fin 1)) = V m c main_call0_v59 (ix2 (rowIx q r) (0 : Fin 1)) := by
  refine congrArg (V m c main_call0_v59) (funext fun a => Fin.ext ?_)
  match a with
  | ⟨0, _⟩ => exact (block_word q 64 (1 * r.val)).trans (by show q.val * 64 + 1 * r.val = q.val * 64 + r.val; omega)
  | ⟨1, _⟩ => rfl

/-! ## The result -/

/-- The arguments, over the extended reals. -/
def argQ (c : Dev nD) (s : Fin 512) (h : Fin 32) (d : Fin 128) : EReal := m ((c : Thread nD τ).loc main_arg0) (ix3 s h d)
def argK (c : Dev nD) (t : Fin 8192) (d : Fin 128) : EReal := m ((c : Thread nD τ).loc main_arg1) (ix2 t d)
def argW (c : Dev nD) (s : Fin 512) (h : Fin 32) : EReal := m ((c : Thread nD τ).loc main_arg2) (ix2 s h)

/-- A row of the result, where the weights are finite and not negative. -/
theorem G_at (c : Dev nD) (s : Fin 512) (t : Fin 8192) (h0 : ∀ h, 0 ≤ argW m c s h) (h1 : ∀ h, argW m c s h ≠ ⊤) :
    G m c (ix2 s t) = if ((t.val : ℕ) : ℤ) < (ends m c s).toInt
      then (∑ h : Fin 32, max (∑ d : Fin 128, argQ m c s h d * argK m c t d) 0 * argW m c s h : EReal) else ⊥ := by
  obtain ⟨p, rfl⟩ := Order.rowAt_surjective (ends m c) s
  obtain ⟨q, r, hp⟩ : ∃ (q : Fin 8) (r : Fin 64), rowIx q r = p :=
    ⟨⟨p.val / 64, by have := p.isLt; omega⟩, ⟨p.val % 64, Nat.mod_lt _ (by decide)⟩, Fin.ext (by show p.val / 64 * 64 + p.val % 64 = p.val; omega)⟩
  subst hp
  have he : (iblk m c 3 (pt q) (ix2 r (0 : Fin 1)) : BitVec 32) = ends m c (rowOf m c q r) := (block_e m c q r).trans (V_ends m c (rowIx q r))
  refine (G_row m c q r t).trans ((finished_at (lastEnd m c q) (iblk m c 3 (pt q)) (k0_pay4 (iblk m c 0 (pt q)) (iblk m c 1 (pt q))) (iblk m c 2 (pt q)) r t ?_).trans ?_)
  · rw [he]
    unfold lastEnd
    exact V_smax m c q r
  · rw [he]
    refine if_congr Iff.rfl (Finset.sum_congr rfl fun h _ => ?_) rfl
    refine Eq.trans ?_ (relu_weight Finset.univ (fun d => argQ m c (rowOf m c q r) h d) (fun d => argK m c t d) (h0 h) (h1 h))
    refine congrArg (fun y : EReal => max y 0) (Finset.sum_congr rfl fun d _ => congrArg₂ (fun x y : EReal => x * y) ?_ ?_)
    · refine (products_at _ _ h r d).trans (congrArg₂ (fun x y : EReal => x * y) ?_ ?_)
      · exact (block_q m c q h r d).trans (V_q m c q h r d)
      · exact (block_w m c q h r).trans (V_w m c q h r)
    · exact (block_k m c q t d).trans (V_k m c t d)

end Cert.KernelIdeal.Hand
-- ==== Proof.Ref.lean ====
/- What the reference computes over the extended reals, at every row and position, and what the precondition says of its
   arguments. -/
module

public import proofs.«01_k».proof.Proof.Gen.ReferenceIdeal.Run
public import proofs.«01_k».proof.Proof.Gen.Pre_from_start
public import Idealize.ShloMosaic.Lib.ReduceAll
public import Idealize.ShloMosaic.Lib.Quiescent
public import Idealize.ShloMosaic.Lib.IdealHost
public import Idealize.ShloMosaic.Lib.Claim
public import Idealize.ShloMosaic.Lib.WordCmp
public import Idealize.ShloMosaic.Lib.Pointwise.Select
public import Idealize.ShloMosaic.Lib.ValueIdx
public import Idealize.ShloMosaic.PureOps.Ideal.Laws

@[expose] public section

noncomputable section

namespace Cert.ReferenceIdeal.Hand

open Cert.ReferenceIdeal Cert.ReferenceIdeal.Gen Idealize.ShloMosaic Idealize.ShloMosaic.TcCoe Idealize.SL.Sem
open Idealize.ShloMosaic.ValueIdx (contrEquiv1)

/-! ## The contractions at an index -/

/-- The scores: queries against keys. -/
theorem scores_at (Q : FVec Ideal S512x32x128 .f32) (K : FVec Ideal S8192x128 .f32) (s : Fin 512) (h : Fin 32) (t : Fin 8192) :
    Host.dotGeneral dot_S512x32x128_S8192x128_S512x32x8192_2_1_01_0_n_n none Q K (ix3 s h t)
      = ∑ d : Fin 128, (Q (ix3 s h d) * K (ix2 t d) : EReal) := by
  simp only [Host.dotGeneral]
  refine (Ideal.dotGeneral_apply dot_S512x32x128_S8192x128_S512x32x8192_2_1_01_0_n_n none _ Q K _).trans ?_
  refine (Equiv.sum_comp (contrEquiv1 dot_S512x32x128_S8192x128_S512x32x8192_2_1_01_0_n_n 128 rfl rfl).symm _).symm.trans ?_
  refine Finset.sum_congr rfl fun d _ => congrArg₂ (fun x y : EReal => x * y) (congrArg Q ?_) (congrArg K ?_)
  · funext ax
    match ax with
    | ⟨0, _⟩ => rfl
    | ⟨1, _⟩ => rfl
    | ⟨2, _⟩ => rfl
  · funext ax
    match ax with
    | ⟨0, _⟩ => rfl
    | ⟨1, _⟩ => rfl

/-- The weighted sum over heads. -/
theorem heads_at (X : FVec Ideal S512x32x8192 .f32) (W : FVec Ideal S512x32 .f32) (s : Fin 512) (t : Fin 8192) :
    Host.dotGeneral dot_S512x32x8192_S512x32_S512x8192_1_1_2_n_0_0 none X W (ix2 s t)
      = ∑ h : Fin 32, (X (ix3 s h t) * W (ix2 s h) : EReal) := by
  simp only [Host.dotGeneral]
  refine (Ideal.dotGeneral_apply dot_S512x32x8192_S512x32_S512x8192_1_1_2_n_0_0 none _ X W _).trans ?_
  refine (Equiv.sum_comp (contrEquiv1 dot_S512x32x8192_S512x32_S512x8192_1_1_2_n_0_0 32 rfl rfl).symm _).symm.trans ?_
  refine Finset.sum_congr rfl fun h _ => congrArg₂ (fun x y : EReal => x * y) (congrArg X ?_) (congrArg W ?_)
  · funext ax
    match ax with
    | ⟨0, _⟩ => rfl
    | ⟨1, _⟩ => rfl
    | ⟨2, _⟩ => rfl
  · funext ax
    match ax with
    | ⟨0, _⟩ => rfl
    | ⟨1, _⟩ => rfl

theorem bottom : (constant S_ .f32 0xFF800000#32 : FVec Ideal S_ .f32) ix0 = (⊥ : EReal) := by
  show Ideal.ofBits .f32 0xFF800000#32 = ⊥
  simp [Ideal.ofBits, Ideal.ieee]

/-- The positions, along a row. -/
theorem position_at (s : Fin 512) (t : Fin 8192) :
    broadcastInDim S512x8192 ![0, 1] bcast_S1x8192_S512x8192_0_1 (broadcastInDim S1x8192 ![1] bcast_S8192_S1x8192_1 (iotaInDim S8192 32 0)) (ix2 s t)
      = BitVec.ofNat 32 t.val := rfl

/-- A number per row, along the positions. -/
theorem row_at (e : IVec S512 32) (s : Fin 512) (t : Fin 8192) :
    broadcastInDim S512x8192 ![0, 1] bcast_S512x1_S512x8192_0_1 (broadcastInDim S512x1 ![0] bcast_S512_S512x1_0 e) (ix2 s t) = e (ix1 s) :=
  congrArg e (funext fun ax => by
    match ax with
    | ⟨0, _⟩ => rfl)

variable (m : (ℓ : Loc nD τ sig) → Buf (Elt Ideal) ℓ) (ρ : Dev nD → PrngReg)

/-- The reference's result, as a function of its arguments. -/
def result (Q : FVec Ideal S512x32x128 .f32) (K : FVec Ideal S8192x128 .f32) (W : FVec Ideal S512x32 .f32) (ks ke : IVec S512 32) : FVec Ideal S512x8192 .f32 :=
  select (andi (cmpi .sge (broadcastInDim S512x8192 ![0, 1] bcast_S1x8192_S512x8192_0_1 (broadcastInDim S1x8192 ![1] bcast_S8192_S1x8192_1 (iotaInDim S8192 32 0))) (broadcastInDim S512x8192 ![0, 1] bcast_S512x1_S512x8192_0_1 (broadcastInDim S512x1 ![0] bcast_S512_S512x1_0 ks))) (cmpi .slt (broadcastInDim S512x8192 ![0, 1] bcast_S1x8192_S512x8192_0_1 (broadcastInDim S1x8192 ![1] bcast_S8192_S1x8192_1 (iotaInDim S8192 32 0))) (broadcastInDim S512x8192 ![0, 1] bcast_S512x1_S512x8192_0_1 (broadcastInDim S512x1 ![0] bcast_S512_S512x1_0 ke)))) (Host.dotGeneral dot_S512x32x8192_S512x32_S512x8192_1_1_2_n_0_0 none (maximumf (Host.dotGeneral dot_S512x32x128_S8192x128_S512x32x8192_2_1_01_0_n_n none Q K) (broadcastInDim S512x32x8192 ![] bcast_S_S512x32x8192 (constant S_ .f32 0x00000000#32))) W) (broadcastInDim S512x8192 ![] bcast_S_S512x8192 (id (constant S_ .f32 0xFF800000#32)))

/-- The reference's result at a row and a position, where no row starts late. -/
theorem result_at (Q : FVec Ideal S512x32x128 .f32) (K : FVec Ideal S8192x128 .f32) (W : FVec Ideal S512x32 .f32) (ks ke : IVec S512 32)
    (s : Fin 512) (t : Fin 8192) (hk : (ks (ix1 s)).toInt ≤ 0) :
    result Q K W ks ke (ix2 s t) = if ((t.val : ℕ) : ℤ) < (ke (ix1 s)).toInt
      then (∑ h : Fin 32, max (∑ d : Fin 128, (Q (ix3 s h d) * K (ix2 t d) : EReal)) 0 * W (ix2 s h) : EReal) else ⊥ := by
  have ht := t.isLt
  have hv : (BitVec.ofNat 32 t.val).toInt = ((t.val : ℕ) : ℤ) := WordCmp.toInt_ofNat_of_lt (by omega)
  have hge : IntOp.cmpi .sge (BitVec.ofNat 32 t.val) (ks (ix1 s)) = 1#1 := by
    rw [WordCmp.cmpi_sge_eq, hv, decide_eq_true (by omega)]
    rfl
  show Scalar.select (IntOp.andi (IntOp.cmpi .sge _ _) (IntOp.cmpi .slt _ _)) _ _ = _
  rw [position_at, row_at, row_at, hge, WordCmp.cmpi_slt_eq, hv, heads_at]
  by_cases hlt : ((t.val : ℕ) : ℤ) < (ke (ix1 s)).toInt
  · rw [if_pos hlt, decide_eq_true hlt]
    rw [show IntOp.andi (1#1) (BitVec.ofBool true) = 1#1 from rfl]
    refine (if_pos rfl).trans (Finset.sum_congr rfl fun h _ => congrArg (fun y : EReal => y * (W (ix2 s h) : EReal)) ?_)
    exact congrArg₂ (fun x y : EReal => max x y) (scores_at Q K s h t) Ideal.ofBits_zero_f32
  · rw [if_neg hlt, decide_eq_false hlt]
    exact bottom

/-! ## The run -/

theorem value : θ_run defs (onTc (τ := τ) (main (F := Ideal))) ⟨m, fun _ => 0, ρ⟩ fun r => ∀ c : Dev nD,
      r.2.mem ((c.tc : Thread nD τ).loc main_v15) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-- The reference has no semaphore, so every counter reads zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems rfl r.2⟩) (value m ρ)

end Cert.ReferenceIdeal.Hand

namespace Cert.Pre_from_start.Hand

open Cert.Pre_from_start Cert.Pre_from_start.Gen Idealize.ShloMosaic

/-- What the precondition says: the weights are finite and not negative, and no row starts after the first position. -/
theorem holds (Q : FVec Ideal S512x32x128 .f32) (K : FVec Ideal S8192x128 .f32) (W : FVec Ideal S512x32 .f32) (ks ke : IVec S512 32)
    (h : fn Q K W ks ke = fun _ => 1#1) :
    (∀ (s : Fin 512) (a : Fin 32), (0 : EReal) ≤ W (ix2 s a) ∧ (W (ix2 s a) : EReal) ≠ ⊤) ∧ ∀ s : Fin 512, (ks (ix1 s)).toInt ≤ 0 := by
  obtain ⟨hw, hk⟩ := IntOp.andi_eq_one.mp (congrFun h ix0)
  haveI : Subsingleton S_.Idx := ⟨fun a b => funext fun i => i.elim0⟩
  refine ⟨fun s a => ?_, fun s => ?_⟩
  · obtain ⟨h0, h1⟩ := IntOp.andi_eq_one.mp (Host.reduce_andi_all _ _ _ _ ix0 hw (ix2 s a))
    have h0' := (Ideal.cmp_oge_eq_one _ _).mp h0
    have h1' := (Ideal.cmp_olt_eq_one _ _).mp h1
    have hz : Ideal.ofBits .f32 0x00000000#32 = 0 := Ideal.ofBits_zero_f32
    have ht : Ideal.ofBits .f32 0x7F800000#32 = ⊤ := by simp [Ideal.ofBits, Ideal.ieee]
    exact ⟨hz ▸ h0', ne_of_lt (ht ▸ h1')⟩
  · have := Host.reduce_andi_all _ _ _ _ ix0 hk (ix1 s)
    have h' := (WordCmp.ofBool_decide_eq_one_iff _).mp ((WordCmp.cmpi_sle_eq _ _).symm.trans this)
    exact h'

end Cert.Pre_from_start.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_from_start
public import proofs.«01_k».proof.Proof.Value
public import proofs.«01_k».proof.Proof.BitsRun
public import proofs.«01_k».proof.Proof.Ref
public import Idealize.ShloMosaic.Adequacy
public import Idealize.ShloMosaic.Init

@[expose] public section

noncomputable section

namespace Cert.Proof

open Idealize.ShloMosaic Idealize.SL.Sem Cert.Kernel

/-- Where the precondition holds, the reference's result from the kernel's arguments is what the kernel leaves. -/
theorem result_eq (m : (ℓ : Loc Cert.KernelIdeal.nD Cert.KernelIdeal.τ Cert.KernelIdeal.sig) → Buf (Elt Ideal) ℓ)
    (h : Cert.Pre_KernelIdeal_from_start (hPre_from_start := Cert.Pre_from_start.Gen.facts) m) (c : Dev Cert.KernelIdeal.nD) :
    Cert.ReferenceIdeal.Hand.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Hand.G m c := by
  obtain ⟨hw, hk⟩ := Cert.Pre_from_start.Hand.holds _ _ _ _ _ (h c)
  funext x
  obtain ⟨s, t, rfl⟩ : ∃ (s : Fin 512) (t : Fin 8192), x = ix2 s t := ⟨x 0, x 1, funext fun a => by
    match a with
    | ⟨0, _⟩ => rfl
    | ⟨1, _⟩ => rfl⟩
  exact (Cert.ReferenceIdeal.Hand.result_at _ _ _ _ _ s t (hk s)).trans
    (Cert.KernelIdeal.Hand.G_at m c s t (fun a => (hw s a).1) (fun a => (hw s a).2)).symm

theorem algebraic : Cert.algebraic_KernelIdeal_ReferenceIdeal_pre_from_start (hKernelIdeal := Cert.KernelIdeal.Gen.facts)
    (hReferenceIdeal := Cert.ReferenceIdeal.Gen.facts) (hPre_from_start := Cert.Pre_from_start.Gen.facts) := by
  intro m g m' g' hm he
  refine ⟨fun c => Cert.KernelIdeal.Hand.G m c, Cert.KernelIdeal.Hand.value m g, ?_⟩
  refine (θ_run _ _ _).mono (fun r h c => ⟨(h c).1.trans ?_, (h c).2⟩) (Cert.ReferenceIdeal.Hand.value m' g')
  obtain ⟨e0, e1, e2, e3, e4⟩ := he c
  rw [e0, e1, e2, e3, e4]
  exact result_eq m hm c

theorem claim : Cert.Claim := ⟨Cert.Kernel.Gen.facts, Cert.KernelIdeal.Gen.facts, Cert.ReferenceIdeal.Gen.facts, Cert.Pre_from_start.Gen.facts,
  fun m g _ => Cert.Kernel.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  trivial,
  algebraic⟩

end Cert.Proof

end
